-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S10000x256 : Shape := ⟨2, ![10000, 256]⟩
abbrev S2x160000 : Shape := ⟨2, ![2, 160000]⟩
abbrev S768x256 : Shape := ⟨2, ![768, 256]⟩
abbrev S768 : Shape := ⟨1, ![768]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S10000x256 .f32) (main_arg1 : IVec S2x160000 32) (main_arg2 : FVec F S768x256 .f32) (main_arg3 : FVec F S768 .f32) (main_arg4 : FVec F S1024x256 .f32) (main_arg5 : FVec F S1024 .f32) (main_arg6 : FVec F S256x1024 .f32) (main_arg7 : FVec F S256 .f32) (main_arg8 : FVec F S256 .f32) (main_arg9 : FVec F S256 .f32) (main_arg10 : FVec F S256 .f32) (main_arg11 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S768x256 .f32 := Host.absf main_arg2
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S10000x256 : Shape := ⟨2, ![10000, 256]⟩
abbrev S2x160000 : Shape := ⟨2, ![2, 160000]⟩
abbrev S768x256 : Shape := ⟨2, ![768, 256]⟩
abbrev S768 : Shape := ⟨1, ![768]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S_ : Shape := ⟨0, ![]⟩
abbrev S768x1 : Shape := ⟨2, ![768, 1]⟩
abbrev S256x768 : Shape := ⟨2, ![256, 768]⟩
abbrev S1x768 : Shape := ⟨2, ![1, 768]⟩
abbrev S1x160000 : Shape := ⟨2, ![1, 160000]⟩
abbrev S160000 : Shape := ⟨1, ![160000]⟩
abbrev S10000x8x32 : Shape := ⟨3, ![10000, 8, 32]⟩
abbrev S160000x1 : Shape := ⟨2, ![160000, 1]⟩
abbrev S160000x8x32 : Shape := ⟨3, ![160000, 8, 32]⟩
abbrev S160000x8 : Shape := ⟨2, ![160000, 8]⟩
abbrev S160000x8x1 : Shape := ⟨3, ![160000, 8, 1]⟩
abbrev S10000x8 : Shape := ⟨2, ![10000, 8]⟩
abbrev S10000x8x1 : Shape := ⟨3, ![10000, 8, 1]⟩
abbrev S10000 : Shape := ⟨1, ![10000]⟩
abbrev S10000x1 : Shape := ⟨2, ![10000, 1]⟩
abbrev S1x256 : Shape := ⟨2, ![1, 256]⟩
abbrev S10000x1024 : Shape := ⟨2, ![10000, 1024]⟩
abbrev S1x1024 : Shape := ⟨2, ![1, 1024]⟩
abbrev S400x256 : Shape := ⟨2, ![400, 256]⟩
abbrev S400x768 : Shape := ⟨2, ![400, 768]⟩

abbrev nBuf : Space → Nat
  | .hbm => 168
  | .vmem => 10
  | .smem => 0
  | _ => 0

abbrev hbmTy0_0 (i : Nat) : BufTy := match i % 128 with
  | 0 => ⟨S10000x256, .f32⟩
  | 1 => ⟨S2x160000, .i32⟩
  | 2 => ⟨S768x256, .f32⟩
  | 3 => ⟨S768, .f32⟩
  | 4 => ⟨S1024x256, .f32⟩
  | 5 => ⟨S1024, .f32⟩
  | 6 => ⟨S256x1024, .f32⟩
  | 7 => ⟨S256, .f32⟩
  | 8 => ⟨S256, .f32⟩
  | 9 => ⟨S256, .f32⟩
  | 10 => ⟨S256, .f32⟩
  | 11 => ⟨S256, .f32⟩
  | 12 => ⟨S768, .i32⟩
  | 13 => ⟨S768, .i1⟩
  | 14 => ⟨S768, .i1⟩
  | 15 => ⟨S_, .i32⟩
  | 16 => ⟨S768, .i32⟩
  | 17 => ⟨S768, .i32⟩
  | 18 => ⟨S768, .i32⟩
  | 19 => ⟨S768x1, .i32⟩
  | 20 => ⟨S768x256, .f32⟩
  | 21 => ⟨S256x768, .f32⟩
  | 22 => ⟨S_, .i32⟩
  | 23 => ⟨S768, .i32⟩
  | 24 => ⟨S768, .i32⟩
  | 25 => ⟨S768, .i32⟩
  | 26 => ⟨S768x1, .i32⟩
  | 27 => ⟨S768, .f32⟩
  | 28 => ⟨S1x768, .f32⟩
  | 29 => ⟨S10000x256, .f32⟩
  | 30 => ⟨S10000x256, .f32⟩
  | 31 => ⟨S10000x256, .f32⟩
  | 32 => ⟨S1x160000, .i32⟩
  | 33 => ⟨S160000, .i32⟩
  | 34 => ⟨S1x160000, .i32⟩
  | 35 => ⟨S160000, .i32⟩
  | 36 => ⟨S10000x8x32, .f32⟩
  | 37 => ⟨S10000x8x32, .f32⟩
  | 38 => ⟨S10000x8x32, .f32⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000x8x32, .f32⟩
  | 48 => ⟨S_, .i32⟩
  | 49 => ⟨S160000, .i32⟩
  | 50 => ⟨S160000, .i1⟩
  | 51 => ⟨S_, .i32⟩
  | 52 => ⟨S160000, .i32⟩
  | 53 => ⟨S160000, .i32⟩
  | 54 => ⟨S160000, .i32⟩
  | 55 => ⟨S160000x1, .i32⟩
  | 56 => ⟨S160000x8x32, .f32⟩
  | 57 => ⟨S160000x8x32, .f32⟩
  | 58 => ⟨S_, .f32⟩
  | 59 => ⟨S160000x8, .f32⟩
  | 60 => ⟨S_, .f32⟩
  | 61 => ⟨S160000x8, .f32⟩
  | 62 => ⟨S160000x8, .f32⟩
  | 63 => ⟨S160000x8, .f32⟩
  | 64 => ⟨S160000x8x1, .f32⟩
  | 65 => ⟨S_, .i32⟩
  | 66 => ⟨S160000, .i32⟩
  | 67 => ⟨S160000, .i1⟩
  | 68 => ⟨S_, .i32⟩
  | 69 => ⟨S160000, .i32⟩
  | 70 => ⟨S160000, .i32⟩
  | 71 => ⟨S160000, .i32⟩
  | 72 => ⟨S160000x1, .i32⟩
  | 73 => ⟨S160000x8x32, .f32⟩
  | 74 => ⟨S160000x8x32, .f32⟩
  | 75 => ⟨S160000x8x32, .f32⟩
  | 76 => ⟨S_, .f32⟩
  | 77 => ⟨S10000x8x32, .f32⟩
  | 78 => ⟨S160000x1, .i32⟩
  | 79 => ⟨S10000x8x32, .f32⟩
  | 80 => ⟨S_, .f32⟩
  | 81 => ⟨S10000x8, .f32⟩
  | 82 => ⟨S160000x1, .i32⟩
  | 83 => ⟨S10000x8, .f32⟩
  | 84 => ⟨S_, .f32⟩
  | 85 => ⟨S10000x8, .f32⟩
  | 86 => ⟨S10000x8, .i1⟩
  | 87 => ⟨S_, .f32⟩
  | 88 => ⟨S_, .f32⟩
  | 89 => ⟨S10000x8, .f32⟩
  | 90 => ⟨S10000x8, .f32⟩
  | 91 => ⟨S10000x8x1, .f32⟩
  | 92 => ⟨S10000x8x32, .f32⟩
  | 93 => ⟨S10000x8x32, .f32⟩
  | 94 => ⟨S10000x256, .f32⟩
  | 95 => ⟨S10000x256, .f32⟩
  | 96 => ⟨S_, .f32⟩
  | 97 => ⟨S10000, .f32⟩
  | 98 => ⟨S10000x1, .f32⟩
  | 99 => ⟨S_, .f32⟩
  | 100 => ⟨S10000x1, .f32⟩
  | 101 => ⟨S10000x1, .f32⟩
  | 102 => ⟨S10000x256, .f32⟩
  | 103 => ⟨S10000x256, .f32⟩
  | 104 => ⟨S10000x256, .f32⟩
  | 105 => ⟨S_, .f32⟩
  | 106 => ⟨S10000, .f32⟩
  | 107 => ⟨S10000x1, .f32⟩
  | 108 => ⟨S_, .f32⟩
  | 109 => ⟨S10000x1, .f32⟩
  | 110 => ⟨S10000x1, .f32⟩
  | 111 => ⟨S10000x256, .f32⟩
  | 112 => ⟨S10000x256, .f32⟩
  | 113 => ⟨S_, .f32⟩
  | 114 => ⟨S10000x1, .f32⟩
  | 115 => ⟨S10000x1, .f32⟩
  | 116 => ⟨S10000x1, .f32⟩
  | 117 => ⟨S10000x256, .f32⟩
  | 118 => ⟨S10000x256, .f32⟩
  | 119 => ⟨S1x256, .f32⟩
  | 120 => ⟨S10000x256, .f32⟩
  | 121 => ⟨S10000x256, .f32⟩
  | 122 => ⟨S1x256, .f32⟩
  | 123 => ⟨S10000x256, .f32⟩
  | 124 => ⟨S10000x256, .f32⟩
  | 125 => ⟨S256x1024, .f32⟩
  | 126 => ⟨S10000x1024, .f32⟩
  | 127 => ⟨S1x1024, .f32⟩
  | _ => ⟨S10000x256, .f32⟩

abbrev hbmTy0_1 (i : Nat) : BufTy := match i % 128 with
  | 0 => ⟨S10000x1024, .f32⟩
  | 1 => ⟨S10000x1024, .f32⟩
  | 2 => ⟨S_, .f32⟩
  | 3 => ⟨S10000x1024, .f32⟩
  | 4 => ⟨S10000x1024, .f32⟩
  | 5 => ⟨S1024x256, .f32⟩
  | 6 => ⟨S10000x256, .f32⟩
  | 7 => ⟨S1x256, .f32⟩
  | 8 => ⟨S10000x256, .f32⟩
  | 9 => ⟨S10000x256, .f32⟩
  | 10 => ⟨S10000x256, .f32⟩
  | 11 => ⟨S_, .f32⟩
  | 12 => ⟨S10000, .f32⟩
  | 13 => ⟨S10000x1, .f32⟩
  | 14 => ⟨S_, .f32⟩
  | 15 => ⟨S10000x1, .f32⟩
  | 16 => ⟨S10000x1, .f32⟩
  | 17 => ⟨S10000x256, .f32⟩
  | 18 => ⟨S10000x256, .f32⟩
  | 19 => ⟨S10000x256, .f32⟩
  | 20 => ⟨S_, .f32⟩
  | 21 => ⟨S10000, .f32⟩
  | 22 => ⟨S10000x1, .f32⟩
  | 23 => ⟨S_, .f32⟩
  | 24 => ⟨S10000x1, .f32⟩
  | 25 => ⟨S10000x1, .f32⟩
  | 26 => ⟨S10000x256, .f32⟩
  | 27 => ⟨S10000x256, .f32⟩
  | 28 => ⟨S_, .f32⟩
  | 29 => ⟨S10000x1, .f32⟩
  | 30 => ⟨S10000x1, .f32⟩
  | 31 => ⟨S10000x1, .f32⟩
  | 32 => ⟨S10000x256, .f32⟩
  | 33 => ⟨S10000x256, .f32⟩
  | 34 => ⟨S1x256, .f32⟩
  | 35 => ⟨S10000x256, .f32⟩
  | 36 => ⟨S10000x256, .f32⟩
  | 37 => ⟨S1x256, .f32⟩
  | 38 => ⟨S10000x256, .f32⟩
  | 39 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S400x256, .f32⟩
  | .local _ .vmem, ⟨1, _⟩ => ⟨S400x256, .f32⟩
  | .local _ .vmem, ⟨2, _⟩ => ⟨S256x768, .f32⟩
  | .local _ .vmem, ⟨3, _⟩ => ⟨S1x768, .f32⟩
  | .local _ .vmem, ⟨4, _⟩ => ⟨S400x256, .f32⟩
  | .local _ .vmem, ⟨5, _⟩ => ⟨S400x256, .f32⟩
  | .local _ .vmem, ⟨6, _⟩ => ⟨S400x256, .f32⟩
  | .local _ .vmem, ⟨7, _⟩ => ⟨S400x256, .f32⟩
  | .local _ .vmem, ⟨8, _⟩ => ⟨S400x256, .f32⟩
  | .local _ .vmem, ⟨9, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_c_0 : Ref sig .tc := ⟨.hbm, 13, rfl⟩
abbrev main_call0_c_1 : Ref sig .tc := ⟨.hbm, 14, rfl⟩
abbrev main_call0_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_3 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12_0 : Ref sig .tc := ⟨.hbm, 29, rfl⟩
abbrev main_call0_v12_1 : Ref sig .tc := ⟨.hbm, 30, rfl⟩
abbrev main_call0_v12_2 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_c_4 : Ref sig .tc := ⟨.hbm, 39, rfl⟩
abbrev main_call0_v20 : Ref sig .tc := ⟨.hbm, 40, rfl⟩
abbrev main_call0_v21 : Ref sig .tc := ⟨.hbm, 41, rfl⟩
abbrev main_call0_c_5 : Ref sig .tc := ⟨.hbm, 42, rfl⟩
abbrev main_call0_v22 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_c_6 : Ref sig .tc := ⟨.hbm, 48, rfl⟩
abbrev main_call0_v27 : Ref sig .tc := ⟨.hbm, 49, rfl⟩
abbrev main_call0_v28 : Ref sig .tc := ⟨.hbm, 50, rfl⟩
abbrev main_call0_c_7 : Ref sig .tc := ⟨.hbm, 51, rfl⟩
abbrev main_call0_v29 : Ref sig .tc := ⟨.hbm, 52, rfl⟩
abbrev main_call0_v30 : Ref sig .tc := ⟨.hbm, 53, rfl⟩
abbrev main_call0_v31 : Ref sig .tc := ⟨.hbm, 54, rfl⟩
abbrev main_call0_v32 : Ref sig .tc := ⟨.hbm, 55, rfl⟩
abbrev main_call0_v33 : Ref sig .tc := ⟨.hbm, 56, rfl⟩
abbrev main_call0_v34 : Ref sig .tc := ⟨.hbm, 57, rfl⟩
abbrev main_call0_cst : Ref sig .tc := ⟨.hbm, 58, rfl⟩
abbrev main_call0_v35 : Ref sig .tc := ⟨.hbm, 59, rfl⟩
abbrev main_call0_cst_8 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_v39 : Ref sig .tc := ⟨.hbm, 64, rfl⟩
abbrev main_call0_c_9 : Ref sig .tc := ⟨.hbm, 65, rfl⟩
abbrev main_call0_v40 : Ref sig .tc := ⟨.hbm, 66, rfl⟩
abbrev main_call0_v41 : Ref sig .tc := ⟨.hbm, 67, rfl⟩
abbrev main_call0_c_10 : Ref sig .tc := ⟨.hbm, 68, rfl⟩
abbrev main_call0_v42 : Ref sig .tc := ⟨.hbm, 69, rfl⟩
abbrev main_call0_v43 : Ref sig .tc := ⟨.hbm, 70, rfl⟩
abbrev main_call0_v44 : Ref sig .tc := ⟨.hbm, 71, rfl⟩
abbrev main_call0_v45 : Ref sig .tc := ⟨.hbm, 72, rfl⟩
abbrev main_call0_v46 : Ref sig .tc := ⟨.hbm, 73, rfl⟩
abbrev main_call0_v47 : Ref sig .tc := ⟨.hbm, 74, rfl⟩
abbrev main_call0_v48 : Ref sig .tc := ⟨.hbm, 75, rfl⟩
abbrev main_call0_cst_11 : Ref sig .tc := ⟨.hbm, 76, rfl⟩
abbrev main_call0_v49 : Ref sig .tc := ⟨.hbm, 77, rfl⟩
abbrev main_call0_v50 : Ref sig .tc := ⟨.hbm, 78, rfl⟩
abbrev main_call0_v51 : Ref sig .tc := ⟨.hbm, 79, rfl⟩
abbrev main_call0_cst_12 : Ref sig .tc := ⟨.hbm, 80, rfl⟩
abbrev main_call0_v52 : Ref sig .tc := ⟨.hbm, 81, rfl⟩
abbrev main_call0_v53 : Ref sig .tc := ⟨.hbm, 82, rfl⟩
abbrev main_call0_v54 : Ref sig .tc := ⟨.hbm, 83, rfl⟩
abbrev main_call0_cst_13 : Ref sig .tc := ⟨.hbm, 84, rfl⟩
abbrev main_call0_v55 : Ref sig .tc := ⟨.hbm, 85, rfl⟩
abbrev main_call0_v56 : Ref sig .tc := ⟨.hbm, 86, rfl⟩
abbrev main_call0_cst_14 : Ref sig .tc := ⟨.hbm, 87, rfl⟩
abbrev main_call0_call0_v0 : Ref sig .tc := ⟨.hbm, 88, rfl⟩
abbrev main_call0_call0_v1 : Ref sig .tc := ⟨.hbm, 89, rfl⟩
abbrev main_call0_v57 : Ref sig .tc := ⟨.hbm, 90, rfl⟩
abbrev main_call0_v58 : Ref sig .tc := ⟨.hbm, 91, rfl⟩
abbrev main_call0_v59 : Ref sig .tc := ⟨.hbm, 92, rfl⟩
abbrev main_call0_v60 : Ref sig .tc := ⟨.hbm, 93, rfl⟩
abbrev main_call0_v61 : Ref sig .tc := ⟨.hbm, 94, rfl⟩
abbrev main_call0_v62 : Ref sig .tc := ⟨.hbm, 95, rfl⟩
abbrev main_call0_cst_15 : Ref sig .tc := ⟨.hbm, 96, rfl⟩
abbrev main_call0_v63 : Ref sig .tc := ⟨.hbm, 97, rfl⟩
abbrev main_call0_v64 : Ref sig .tc := ⟨.hbm, 98, rfl⟩
abbrev main_call0_cst_16 : Ref sig .tc := ⟨.hbm, 99, rfl⟩
abbrev main_call0_v65 : Ref sig .tc := ⟨.hbm, 100, rfl⟩
abbrev main_call0_v66 : Ref sig .tc := ⟨.hbm, 101, rfl⟩
abbrev main_call0_v67 : Ref sig .tc := ⟨.hbm, 102, rfl⟩
abbrev main_call0_v68 : Ref sig .tc := ⟨.hbm, 103, rfl⟩
abbrev main_call0_v69 : Ref sig .tc := ⟨.hbm, 104, rfl⟩
abbrev main_call0_cst_17 : Ref sig .tc := ⟨.hbm, 105, rfl⟩
abbrev main_call0_v70 : Ref sig .tc := ⟨.hbm, 106, rfl⟩
abbrev main_call0_v71 : Ref sig .tc := ⟨.hbm, 107, rfl⟩
abbrev main_call0_cst_18 : Ref sig .tc := ⟨.hbm, 108, rfl⟩
abbrev main_call0_v72 : Ref sig .tc := ⟨.hbm, 109, rfl⟩
abbrev main_call0_v73 : Ref sig .tc := ⟨.hbm, 110, rfl⟩
abbrev main_call0_v74 : Ref sig .tc := ⟨.hbm, 111, rfl⟩
abbrev main_call0_v75 : Ref sig .tc := ⟨.hbm, 112, rfl⟩
abbrev main_call0_cst_19 : Ref sig .tc := ⟨.hbm, 113, rfl⟩
abbrev main_call0_v76 : Ref sig .tc := ⟨.hbm, 114, rfl⟩
abbrev main_call0_v77 : Ref sig .tc := ⟨.hbm, 115, rfl⟩
abbrev main_call0_v78 : Ref sig .tc := ⟨.hbm, 116, rfl⟩
abbrev main_call0_v79 : Ref sig .tc := ⟨.hbm, 117, rfl⟩
abbrev main_call0_v80 : Ref sig .tc := ⟨.hbm, 118, rfl⟩
abbrev main_call0_v81 : Ref sig .tc := ⟨.hbm, 119, rfl⟩
abbrev main_call0_v82 : Ref sig .tc := ⟨.hbm, 120, rfl⟩
abbrev main_call0_v83 : Ref sig .tc := ⟨.hbm, 121, rfl⟩
abbrev main_call0_v84 : Ref sig .tc := ⟨.hbm, 122, rfl⟩
abbrev main_call0_v85 : Ref sig .tc := ⟨.hbm, 123, rfl⟩
abbrev main_call0_v86 : Ref sig .tc := ⟨.hbm, 124, rfl⟩
abbrev main_call0_v87 : Ref sig .tc := ⟨.hbm, 125, rfl⟩
abbrev main_call0_v88 : Ref sig .tc := ⟨.hbm, 126, rfl⟩
abbrev main_call0_v89 : Ref sig .tc := ⟨.hbm, 127, rfl⟩
abbrev main_call0_v90 : Ref sig .tc := ⟨.hbm, 128, rfl⟩
abbrev main_call0_v91 : Ref sig .tc := ⟨.hbm, 129, rfl⟩
abbrev main_call0_cst_20 : Ref sig .tc := ⟨.hbm, 130, rfl⟩
abbrev main_call0_v92 : Ref sig .tc := ⟨.hbm, 131, rfl⟩
abbrev main_call0_v93 : Ref sig .tc := ⟨.hbm, 132, rfl⟩
abbrev main_call0_v94 : Ref sig .tc := ⟨.hbm, 133, rfl⟩
abbrev main_call0_v95 : Ref sig .tc := ⟨.hbm, 134, rfl⟩
abbrev main_call0_v96 : Ref sig .tc := ⟨.hbm, 135, rfl⟩
abbrev main_call0_v97 : Ref sig .tc := ⟨.hbm, 136, rfl⟩
abbrev main_call0_v98 : Ref sig .tc := ⟨.hbm, 137, rfl⟩
abbrev main_call0_v99 : Ref sig .tc := ⟨.hbm, 138, rfl⟩
abbrev main_call0_cst_21 : Ref sig .tc := ⟨.hbm, 139, rfl⟩
abbrev main_call0_v100 : Ref sig .tc := ⟨.hbm, 140, rfl⟩
abbrev main_call0_v101 : Ref sig .tc := ⟨.hbm, 141, rfl⟩
abbrev main_call0_cst_22 : Ref sig .tc := ⟨.hbm, 142, rfl⟩
abbrev main_call0_v102 : Ref sig .tc := ⟨.hbm, 143, rfl⟩
abbrev main_call0_v103 : Ref sig .tc := ⟨.hbm, 144, rfl⟩
abbrev main_call0_v104 : Ref sig .tc := ⟨.hbm, 145, rfl⟩
abbrev main_call0_v105 : Ref sig .tc := ⟨.hbm, 146, rfl⟩
abbrev main_call0_v106 : Ref sig .tc := ⟨.hbm, 147, rfl⟩
abbrev main_call0_cst_23 : Ref sig .tc := ⟨.hbm, 148, rfl⟩
abbrev main_call0_v107 : Ref sig .tc := ⟨.hbm, 149, rfl⟩
abbrev main_call0_v108 : Ref sig .tc := ⟨.hbm, 150, rfl⟩
abbrev main_call0_cst_24 : Ref sig .tc := ⟨.hbm, 151, rfl⟩
abbrev main_call0_v109 : Ref sig .tc := ⟨.hbm, 152, rfl⟩
abbrev main_call0_v110 : Ref sig .tc := ⟨.hbm, 153, rfl⟩
abbrev main_call0_v111 : Ref sig .tc := ⟨.hbm, 154, rfl⟩
abbrev main_call0_v112 : Ref sig .tc := ⟨.hbm, 155, rfl⟩
abbrev main_call0_cst_25 : Ref sig .tc := ⟨.hbm, 156, rfl⟩
abbrev main_call0_v113 : Ref sig .tc := ⟨.hbm, 157, rfl⟩
abbrev main_call0_v114 : Ref sig .tc := ⟨.hbm, 158, rfl⟩
abbrev main_call0_v115 : Ref sig .tc := ⟨.hbm, 159, rfl⟩
abbrev main_call0_v116 : Ref sig .tc := ⟨.hbm, 160, rfl⟩
abbrev main_call0_v117 : Ref sig .tc := ⟨.hbm, 161, rfl⟩
abbrev main_call0_v118 : Ref sig .tc := ⟨.hbm, 162, rfl⟩
abbrev main_call0_v119 : Ref sig .tc := ⟨.hbm, 163, rfl⟩
abbrev main_call0_v120 : Ref sig .tc := ⟨.hbm, 164, rfl⟩
abbrev main_call0_v121 : Ref sig .tc := ⟨.hbm, 165, rfl⟩
abbrev main_call0_v122 : Ref sig .tc := ⟨.hbm, 166, rfl⟩
abbrev main_v0 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S10000x256 : Shape := ⟨2, ![10000, 256]⟩
abbrev S2x160000 : Shape := ⟨2, ![2, 160000]⟩
abbrev S768x256 : Shape := ⟨2, ![768, 256]⟩
abbrev S768 : Shape := ⟨1, ![768]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S256x768 : Shape := ⟨2, ![256, 768]⟩
abbrev S10000x768 : Shape := ⟨2, ![10000, 768]⟩
abbrev S1x768 : Shape := ⟨2, ![1, 768]⟩
abbrev S10000x8x96 : Shape := ⟨3, ![10000, 8, 96]⟩
abbrev S10000x8x32 : Shape := ⟨3, ![10000, 8, 32]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x8x32 : Shape := ⟨3, ![160000, 8, 32]⟩
abbrev S160000x8 : Shape := ⟨2, ![160000, 8]⟩
abbrev S1x160000x1 : Shape := ⟨3, ![1, 160000, 1]⟩
abbrev S10000 : Shape := ⟨1, ![10000]⟩
abbrev S10000x1x1 : Shape := ⟨3, ![10000, 1, 1]⟩
abbrev S10000x160000x1 : Shape := ⟨3, ![10000, 160000, 1]⟩
abbrev S1x160000x8 : Shape := ⟨3, ![1, 160000, 8]⟩
abbrev S10000x160000x8 : Shape := ⟨3, ![10000, 160000, 8]⟩
abbrev S10000x8 : Shape := ⟨2, ![10000, 8]⟩
abbrev S160000x8x1 : Shape := ⟨3, ![160000, 8, 1]⟩
abbrev S10000x1 : Shape := ⟨2, ![10000, 1]⟩
abbrev S1x256 : Shape := ⟨2, ![1, 256]⟩
abbrev S10000x1024 : Shape := ⟨2, ![10000, 1024]⟩
abbrev S1x1024 : Shape := ⟨2, ![1, 1024]⟩

abbrev nBuf : Space → Nat
  | .hbm => 187
  | .vmem => 0
  | .smem => 0
  | _ => 0

abbrev hbmTy0_0 (i : Nat) : BufTy := match i % 128 with
  | 0 => ⟨S10000x256, .f32⟩
  | 1 => ⟨S2x160000, .i32⟩
  | 2 => ⟨S768x256, .f32⟩
  | 3 => ⟨S768, .f32⟩
  | 4 => ⟨S1024x256, .f32⟩
  | 5 => ⟨S1024, .f32⟩
  | 6 => ⟨S256x1024, .f32⟩
  | 7 => ⟨S256, .f32⟩
  | 8 => ⟨S256, .f32⟩
  | 9 => ⟨S256, .f32⟩
  | 10 => ⟨S256, .f32⟩
  | 11 => ⟨S256, .f32⟩
  | 12 => ⟨S256x768, .f32⟩
  | 13 => ⟨S10000x768, .f32⟩
  | 14 => ⟨S1x768, .f32⟩
  | 15 => ⟨S10000x768, .f32⟩
  | 16 => ⟨S10000x768, .f32⟩
  | 17 => ⟨S10000x8x96, .f32⟩
  | 18 => ⟨S10000x8x32, .f32⟩
  | 19 => ⟨S10000x8x32, .f32⟩
  | 20 => ⟨S10000x8x32, .f32⟩
  | 21 => ⟨S1x160000, .i32⟩
  | 22 => ⟨S160000, .i32⟩
  | 23 => ⟨S1x160000, .i32⟩
  | 24 => ⟨S160000, .i32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S160000x8x32, .f32⟩
  | 34 => ⟨S_, .i32⟩
  | 35 => ⟨S160000, .i32⟩
  | 36 => ⟨S160000, .i1⟩
  | 37 => ⟨S_, .i32⟩
  | 38 => ⟨S160000, .i32⟩
  | 39 => ⟨S160000, .i32⟩
  | 40 => ⟨S160000, .i32⟩
  | 41 => ⟨S160000x1, .i32⟩
  | 42 => ⟨S160000x8x32, .f32⟩
  | 43 => ⟨S160000x8x32, .f32⟩
  | 44 => ⟨S_, .f32⟩
  | 45 => ⟨S160000x8, .f32⟩
  | 46 => ⟨S_, .f32⟩
  | 47 => ⟨S160000x8, .f32⟩
  | 48 => ⟨S160000x8, .f32⟩
  | 49 => ⟨S1x160000x1, .i32⟩
  | 50 => ⟨S10000, .i32⟩
  | 51 => ⟨S10000x1x1, .i32⟩
  | 52 => ⟨S10000x160000x1, .i32⟩
  | 53 => ⟨S10000x160000x1, .i32⟩
  | 54 => ⟨S10000x160000x1, .i1⟩
  | 55 => ⟨S1x160000x8, .f32⟩
  | 56 => ⟨S_, .f32⟩
  | 57 => ⟨S_, .f32⟩
  | 58 => ⟨S10000x160000x8, .i1⟩
  | 59 => ⟨S10000x160000x8, .f32⟩
  | 60 => ⟨S10000x160000x8, .f32⟩
  | 61 => ⟨S10000x160000x8, .f32⟩
  | 62 => ⟨S_, .f32⟩
  | 63 => ⟨S10000x8, .f32⟩
  | 64 => ⟨S10000x8, .f32⟩
  | 65 => ⟨S_, .f32⟩
  | 66 => ⟨S10000x8, .f32⟩
  | 67 => ⟨S10000x8, .i1⟩
  | 68 => ⟨S_, .f32⟩
  | 69 => ⟨S_, .f32⟩
  | 70 => ⟨S10000x8, .f32⟩
  | 71 => ⟨S10000x8, .f32⟩
  | 72 => ⟨S_, .i32⟩
  | 73 => ⟨S160000, .i32⟩
  | 74 => ⟨S160000, .i1⟩
  | 75 => ⟨S_, .i32⟩
  | 76 => ⟨S160000, .i32⟩
  | 77 => ⟨S160000, .i32⟩
  | 78 => ⟨S160000, .i32⟩
  | 79 => ⟨S160000x1, .i32⟩
  | 80 => ⟨S160000x8, .f32⟩
  | 81 => ⟨S160000x8, .f32⟩
  | 82 => ⟨S160000x8, .f32⟩
  | 83 => ⟨S_, .f32⟩
  | 84 => ⟨S10000x8, .f32⟩
  | 85 => ⟨S160000x1, .i32⟩
  | 86 => ⟨S10000x8, .f32⟩
  | 87 => ⟨S_, .i32⟩
  | 88 => ⟨S160000, .i32⟩
  | 89 => ⟨S160000, .i1⟩
  | 90 => ⟨S_, .i32⟩
  | 91 => ⟨S160000, .i32⟩
  | 92 => ⟨S160000, .i32⟩
  | 93 => ⟨S160000, .i32⟩
  | 94 => ⟨S160000x1, .i32⟩
  | 95 => ⟨S160000x8, .f32⟩
  | 96 => ⟨S160000x8, .f32⟩
  | 97 => ⟨S160000x8x1, .f32⟩
  | 98 => ⟨S_, .i32⟩
  | 99 => ⟨S160000, .i32⟩
  | 100 => ⟨S160000, .i1⟩
  | 101 => ⟨S_, .i32⟩
  | 102 => ⟨S160000, .i32⟩
  | 103 => ⟨S160000, .i32⟩
  | 104 => ⟨S160000, .i32⟩
  | 105 => ⟨S160000x1, .i32⟩
  | 106 => ⟨S160000x8x32, .f32⟩
  | 107 => ⟨S160000x8x32, .f32⟩
  | 108 => ⟨S160000x8x32, .f32⟩
  | 109 => ⟨S_, .f32⟩
  | 110 => ⟨S10000x8x32, .f32⟩
  | 111 => ⟨S160000x1, .i32⟩
  | 112 => ⟨S10000x8x32, .f32⟩
  | 113 => ⟨S10000x256, .f32⟩
  | 114 => ⟨S10000x256, .f32⟩
  | 115 => ⟨S_, .f32⟩
  | 116 => ⟨S10000, .f32⟩
  | 117 => ⟨S10000x1, .f32⟩
  | 118 => ⟨S_, .f32⟩
  | 119 => ⟨S10000x1, .f32⟩
  | 120 => ⟨S10000x1, .f32⟩
  | 121 => ⟨S10000x256, .f32⟩
  | 122 => ⟨S10000x256, .f32⟩
  | 123 => ⟨S10000x256, .f32⟩
  | 124 => ⟨S_, .f32⟩
  | 125 => ⟨S10000, .f32⟩
  | 126 => ⟨S10000x1, .f32⟩
  | 127 => ⟨S_, .f32⟩
  | _ => ⟨S10000x256, .f32⟩

abbrev hbmTy0_1 (i : Nat) : BufTy := match i % 128 with
  | 0 => ⟨S10000x1, .f32⟩
  | 1 => ⟨S10000x1, .f32⟩
  | 2 => ⟨S10000x256, .f32⟩
  | 3 => ⟨S10000x256, .f32⟩
  | 4 => ⟨S_, .f32⟩
  | 5 => ⟨S10000x1, .f32⟩
  | 6 => ⟨S10000x1, .f32⟩
  | 7 => ⟨S10000x1, .f32⟩
  | 8 => ⟨S10000x256, .f32⟩
  | 9 => ⟨S10000x256, .f32⟩
  | 10 => ⟨S1x256, .f32⟩
  | 11 => ⟨S10000x256, .f32⟩
  | 12 => ⟨S10000x256, .f32⟩
  | 13 => ⟨S1x256, .f32⟩
  | 14 => ⟨S10000x256, .f32⟩
  | 15 => ⟨S10000x256, .f32⟩
  | 16 => ⟨S256x1024, .f32⟩
  | 17 => ⟨S10000x1024, .f32⟩
  | 18 => ⟨S1x1024, .f32⟩
  | 19 => ⟨S10000x1024, .f32⟩
  | 20 => ⟨S10000x1024, .f32⟩
  | 21 => ⟨S_, .f32⟩
  | 22 => ⟨S10000x1024, .f32⟩
  | 23 => ⟨S10000x1024, .f32⟩
  | 24 => ⟨S1024x256, .f32⟩
  | 25 => ⟨S10000x256, .f32⟩
  | 26 => ⟨S1x256, .f32⟩
  | 27 => ⟨S10000x256, .f32⟩
  | 28 => ⟨S10000x256, .f32⟩
  | 29 => ⟨S10000x256, .f32⟩
  | 30 => ⟨S_, .f32⟩
  | 31 => ⟨S10000, .f32⟩
  | 32 => ⟨S10000x1, .f32⟩
  | 33 => ⟨S_, .f32⟩
  | 34 => ⟨S10000x1, .f32⟩
  | 35 => ⟨S10000x1, .f32⟩
  | 36 => ⟨S10000x256, .f32⟩
  | 37 => ⟨S10000x256, .f32⟩
  | 38 => ⟨S10000x256, .f32⟩
  | 39 => ⟨S_, .f32⟩
  | 40 => ⟨S10000, .f32⟩
  | 41 => ⟨S10000x1, .f32⟩
  | 42 => ⟨S_, .f32⟩
  | 43 => ⟨S10000x1, .f32⟩
  | 44 => ⟨S10000x1, .f32⟩
  | 45 => ⟨S10000x256, .f32⟩
  | 46 => ⟨S10000x256, .f32⟩
  | 47 => ⟨S_, .f32⟩
  | 48 => ⟨S10000x1, .f32⟩
  | 49 => ⟨S10000x1, .f32⟩
  | 50 => ⟨S10000x1, .f32⟩
  | 51 => ⟨S10000x256, .f32⟩
  | 52 => ⟨S10000x256, .f32⟩
  | 53 => ⟨S1x256, .f32⟩
  | 54 => ⟨S10000x256, .f32⟩
  | 55 => ⟨S10000x256, .f32⟩
  | 56 => ⟨S1x256, .f32⟩
  | 57 => ⟨S10000x256, .f32⟩
  | 58 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_call1_v0 : Ref sig .tc := ⟨.hbm, 69, rfl⟩
abbrev main_call1_v1 : Ref sig .tc := ⟨.hbm, 70, rfl⟩
abbrev main_v43 : Ref sig .tc := ⟨.hbm, 71, rfl⟩
abbrev main_c_8 : Ref sig .tc := ⟨.hbm, 72, rfl⟩
abbrev main_v44 : Ref sig .tc := ⟨.hbm, 73, rfl⟩
abbrev main_v45 : Ref sig .tc := ⟨.hbm, 74, rfl⟩
abbrev main_c_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_13 : Ref sig .tc := ⟨.hbm, 98, rfl⟩
abbrev main_v65 : Ref sig .tc := ⟨.hbm, 99, rfl⟩
abbrev main_v66 : Ref sig .tc := ⟨.hbm, 100, rfl⟩
abbrev main_c_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_16 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_18 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_20 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_21 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_22 : Ref sig .tc := ⟨.hbm, 158, rfl⟩
abbrev main_v116 : Ref sig .tc := ⟨.hbm, 159, rfl⟩
abbrev main_v117 : Ref sig .tc := ⟨.hbm, 160, rfl⟩
abbrev main_cst_23 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_24 : Ref sig .tc := ⟨.hbm, 167, rfl⟩
abbrev main_v123 : Ref sig .tc := ⟨.hbm, 168, rfl⟩
abbrev main_v124 : Ref sig .tc := ⟨.hbm, 169, rfl⟩
abbrev main_cst_25 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_26 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩

abbrev nD : Nat := 1
abbrev τ : Topo := Topo.v7x

variable {F : FTy → Type} [FloatOps F]
-- ==== Proof.Tail.lean ====
/- What the host operations after the projection compute, as functions of the three projected arrays and the
   arguments: the attention of each node over its edges, the normalization, the feed-forward layer. -/
module

public import proofs.«01_k».proof.Proof.Gen.KernelIdeal.Frame
public import Idealize.ShloMosaic.Lib.StableHlo.Run
public import Idealize.ShloMosaic.Lib.StableHlo.RunRead

@[expose] public section

set_option maxRecDepth 16384

noncomputable section

namespace Cert.Proof.Tail

open Cert.KernelIdeal Cert.KernelIdeal.Gen
open Idealize.ShloMosaic Idealize.ShloMosaic.TcCoe Idealize.SL.Sem Idealize.ShloMosaic.StableHlo

variable {F : FTy → Type} [FloatOps F]

/-- The first row of the edge list: the node each edge belongs to. -/
def srcOf (e : Vec F S2x160000 .i32) : Vec F S160000 .i32 :=
  shapeCast _ (extractStridedSlice S1x160000 ![0, 0] e slices_S2x160000_S1x160000_0_0)
    shapeCasts_S1x160000_S160000

/-- The second row of the edge list: the node each edge reads. -/
def dstOf (e : Vec F S2x160000 .i32) : Vec F S160000 .i32 :=
  shapeCast _ (extractStridedSlice S1x160000 ![1, 0] e slices_S2x160000_S1x160000_1_0)
    shapeCasts_S1x160000_S160000

/-- The edge list as a column. -/
def colOf (s : Vec F S160000 .i32) : Vec F S160000x1 .i32 :=
  broadcastInDim S160000x1 ![0] bcast_S160000_S160000x1_0 s

/-- The row each edge reads: a negative node counts from the end. -/
def rowOf (s : Vec F S160000 .i32) : Vec F S160000x1 .i32 :=
  colOf (select (cmpi .slt s (broadcastInDim S160000 ![] bcast_S_S160000 (constantI S_ 32 0#32)))
    (addi s (broadcastInDim S160000 ![] bcast_S_S160000 (constantI S_ 32 10000#32))) s)

/-- The rows of an array of heads that the edges read. -/
def take (a : Vec F S10000x8x32 .f32) (s : Vec F S160000 .i32) : Vec F S160000x8x32 .f32 :=
  Host.gather gather_S10000x8x32_S160000x1_S160000x8x32_12_0_n_n_0_1_1832 a (rowOf s)

/-- The logit of each edge and head: the scaled product of the two rows. -/
def alphaOf (q k : Vec F S10000x8x32 .f32) (e : Vec F S2x160000 .i32) : Vec F S160000x8 .f32 :=
  mulf (Host.reduceAdd (mulf (take q (srcOf e)) (take k (dstOf e))) (constant S_ .f32 0x00000000#32)
      reducesTo_S160000x8x32_S160000x8_d2 h_S_)
    (broadcastInDim S160000x8 ![] bcast_S_S160000x8 (constant S_ .f32 0x3D800000#32))

/-- One number for each edge and head, repeated along the entries of a head. -/
def spreadE (w : Vec F S160000x8 .f32) : Vec F S160000x8x32 .f32 :=
  broadcastInDim S160000x8x32 ![0, 1, 2] bcast_S160000x8x1_S160000x8x32_0_1_2
    (broadcastInDim S160000x8x1 ![0, 1] bcast_S160000x8_S160000x8x1_0_1 w)

/-- The sum over each node's edges, for each head. -/
def sum8 (w : Vec F S160000x8 .f32) (e : Vec F S2x160000 .i32) : Vec F S10000x8 .f32 :=
  Host.scatterAdd scatter_S10000x8_S160000x1_S160000x8_1_0_0_1
    (broadcastInDim S10000x8 ![] bcast_S_S10000x8 (constant S_ .f32 0x00000000#32)) (colOf (srcOf e)) w

/-- The sum over each node's edges, for each entry of each head. -/
def sum32 (w : Vec F S160000x8x32 .f32) (e : Vec F S2x160000 .i32) : Vec F S10000x8x32 .f32 :=
  Host.scatterAdd scatter_S10000x8x32_S160000x1_S160000x8x32_12_0_0_1
    (broadcastInDim S10000x8x32 ![] bcast_S_S10000x8x32 (constant S_ .f32 0x00000000#32))
    (colOf (srcOf e)) w

/-- The kernel's attention from the exponentials of the logits: the weighted sum of the values over the sum
    of the weights, the latter replaced by one where it is zero. -/
def attnOf (w : Vec F S160000x8 .f32) (v : Vec F S10000x8x32 .f32) (e : Vec F S2x160000 .i32) :
    Vec F S10000x8x32 .f32 :=
  Host.divf (sum32 (mulf (spreadE w) (take v (dstOf e))) e)
    (broadcastInDim S10000x8x32 ![0, 1, 2] bcast_S10000x8x1_S10000x8x32_0_1_2
      (broadcastInDim S10000x8x1 ![0, 1] bcast_S10000x8_S10000x8x1_0_1
        (select (cmpf .oeq (sum8 w e)
            (broadcastInDim S10000x8 ![] bcast_S_S10000x8 (constant S_ .f32 0x00000000#32)))
          (broadcastInDim S10000x8 ![] bcast_S_S10000x8 (id (constant S_ .f32 0x3F800000#32)))
          (sum8 w e))))

/-- The heads of a node laid side by side. -/
def flat (a : Vec F S10000x8x32 .f32) : Vec F S10000x256 .f32 :=
  shapeCast _ a shapeCasts_S10000x8x32_S10000x256

/-- A row of 256 entries cut into its heads. -/
def heads (a : Vec F S10000x256 .f32) : Vec F S10000x8x32 .f32 :=
  shapeCast _ a shapeCasts_S10000x256_S10000x8x32

/-- The mean of each row, as a column. -/
def meanOf (x : Vec F S10000x256 .f32) : Vec F S10000x1 .f32 :=
  Host.divf (broadcastInDim S10000x1 ![0] bcast_S10000_S10000x1_0
      (Host.reduceAdd x (constant S_ .f32 0x00000000#32) reducesTo_S10000x256_S10000_d1 h_S_))
    (broadcastInDim S10000x1 ![] bcast_S_S10000x1 (constant S_ .f32 0x43800000#32))

/-- A column repeated along the rows. -/
def across (x : Vec F S10000x1 .f32) : Vec F S10000x256 .f32 :=
  broadcastInDim S10000x256 ![0, 1] bcast_S10000x1_S10000x256_0_1 x

/-- A vector of 256 entries repeated for every node. -/
def down (g : Vec F S256 .f32) : Vec F S10000x256 .f32 :=
  broadcastInDim S10000x256 ![0, 1] bcast_S1x256_S10000x256_0_1
    (broadcastInDim S1x256 ![1] bcast_S256_S1x256_1 g)

/-- Each row less its mean. -/
def centred (x : Vec F S10000x256 .f32) : Vec F S10000x256 .f32 := subf x (across (meanOf x))

/-- The variance of each row plus the small constant. -/
def spreadOf (x : Vec F S10000x256 .f32) : Vec F S10000x1 .f32 :=
  addf (meanOf (mulf (centred x) (centred x)))
    (broadcastInDim S10000x1 ![] bcast_S_S10000x1 (constant S_ .f32 0x3727C5AC#32))

/-- The kernel's normalization: it multiplies by the reciprocal square root. -/
def normOf (x : Vec F S10000x256 .f32) (g b : Vec F S256 .f32) : Vec F S10000x256 .f32 :=
  addf (mulf (mulf (centred x) (across (Host.rsqrt (spreadOf x)))) (down g)) (down b)

/-- The feed-forward layer added to its input. -/
def ffnOf (x : Vec F S10000x256 .f32) (W1 : Vec F S1024x256 .f32) (b1 : Vec F S1024 .f32)
    (W2 : Vec F S256x1024 .f32) (b2 : Vec F S256 .f32) : Vec F S10000x256 .f32 :=
  addf x (addf (Host.dotGeneral dot_S10000x1024_S1024x256_S10000x256_1_0_0_1_n_n none
      (maximumf (addf (Host.dotGeneral dot_S10000x256_S256x1024_S10000x1024_1_0_0_1_n_n none x
            (transpose S256x1024 [1, 0] W1 transposes_S1024x256_S256x1024_1_0))
          (broadcastInDim S10000x1024 ![0, 1] bcast_S1x1024_S10000x1024_0_1
            (broadcastInDim S1x1024 ![1] bcast_S1024_S1x1024_1 b1)))
        (broadcastInDim S10000x1024 ![] bcast_S_S10000x1024 (constant S_ .f32 0x00000000#32)))
      (transpose S1024x256 [1, 0] W2 transposes_S256x1024_S1024x256_1_0)) (down b2))

/-- The kernel's result from the three projected arrays. -/
def outOf (q k v : Vec F S10000x256 .f32) (x : Vec F S10000x256 .f32) (e : Vec F S2x160000 .i32)
    (W1 : Vec F S1024x256 .f32) (b1 : Vec F S1024 .f32) (W2 : Vec F S256x1024 .f32)
    (b2 g1 be1 g2 be2 : Vec F S256 .f32) : Vec F S10000x256 .f32 :=
  normOf (ffnOf (normOf (addf x (flat (attnOf (Host.exp (alphaOf (heads q) (heads k) e)) (heads v) e)))
    g1 be1) W1 b1 W2 b2) g2 be2

/-! ## The operations in four stretches -/

/-- The operations of the attention. -/
abbrev opsA : List (HloOp τ sig (Elt F)) := hostOps1.take 63
/-- The operations of the first normalization. -/
abbrev opsB : List (HloOp τ sig (Elt F)) := (hostOps1.drop 63).take 30
/-- The operations of the feed-forward layer. -/
abbrev opsC : List (HloOp τ sig (Elt F)) := (hostOps1.drop 93).take 14
/-- The operations of the second normalization. -/
abbrev opsD : List (HloOp τ sig (Elt F)) := hostOps1.drop 107

/-- The last stretch leaves the second normalization in the result. -/
theorem opsD_read (V : Valuation τ sig (Elt F)) :
    after opsD V (Proc.devRef .tc main_v0) = normOf (F := F) (V (Proc.devRef .tc main_call0_v99))
      (V (Proc.devRef .tc main_arg10)) (V (Proc.devRef .tc main_arg11)) := by
  unfold opsD
  simp only [hostOps1, List.drop]
  after_reads_simp
  rfl

/-- The third stretch leaves the feed-forward layer. -/
theorem opsC_read (V : Valuation τ sig (Elt F)) :
    after opsC V (Proc.devRef .tc main_call0_v99) = ffnOf (F := F) (V (Proc.devRef .tc main_call0_v86))
      (V (Proc.devRef .tc main_arg4)) (V (Proc.devRef .tc main_arg5))
      (V (Proc.devRef .tc main_arg6)) (V (Proc.devRef .tc main_arg7)) := by
  unfold opsC
  simp only [hostOps1, List.take, List.drop]
  after_reads_simp
  rfl

/-- The second stretch leaves the first normalization. -/
theorem opsB_read (V : Valuation τ sig (Elt F)) :
    after opsB V (Proc.devRef .tc main_call0_v86) = normOf (F := F)
      (addf (V (Proc.devRef .tc main_arg0)) (V (Proc.devRef .tc main_call0_v61)))
      (V (Proc.devRef .tc main_arg8)) (V (Proc.devRef .tc main_arg9)) := by
  unfold opsB
  simp only [hostOps1, List.take, List.drop]
  after_reads_simp
  rfl

/-- The first stretch leaves the attention. -/
theorem opsA_read (V : Valuation τ sig (Elt F)) :
    after opsA V (Proc.devRef .tc main_call0_v61) = flat (F := F) (attnOf
      (Host.exp (alphaOf (heads (V (Proc.devRef .tc main_call0_v12_0)))
        (heads (V (Proc.devRef .tc main_call0_v12_1))) (V (Proc.devRef .tc main_arg1))))
      (heads (V (Proc.devRef .tc main_call0_v12_2))) (V (Proc.devRef .tc main_arg1))) := by
  unfold opsA
  simp only [hostOps1, List.take]
  after_reads_simp
  rfl

/-! No stretch writes an argument. -/

/-- The stretch of the attention does not write argument 0. -/
theorem opsA_keep_arg0 (V : Valuation τ sig (Elt F)) :
    after opsA V (Proc.devRef .tc main_arg0) = V (Proc.devRef .tc main_arg0) := by
  unfold opsA
  simp only [hostOps1, List.take, List.drop]
  after_reads_simp

/-- The stretch of the attention does not write argument 8. -/
theorem opsA_keep_arg8 (V : Valuation τ sig (Elt F)) :
    after opsA V (Proc.devRef .tc main_arg8) = V (Proc.devRef .tc main_arg8) := by
  unfold opsA
  simp only [hostOps1, List.take, List.drop]
  after_reads_simp

/-- The stretch of the attention does not write argument 9. -/
theorem opsA_keep_arg9 (V : Valuation τ sig (Elt F)) :
    after opsA V (Proc.devRef .tc main_arg9) = V (Proc.devRef .tc main_arg9) := by
  unfold opsA
  simp only [hostOps1, List.take, List.drop]
  after_reads_simp

/-- The stretch of the attention does not write argument 4. -/
theorem opsA_keep_arg4 (V : Valuation τ sig (Elt F)) :
    after opsA V (Proc.devRef .tc main_arg4) = V (Proc.devRef .tc main_arg4) := by
  unfold opsA
  simp only [hostOps1, List.take, List.drop]
  after_reads_simp

/-- The stretch of the attention does not write argument 5. -/
theorem opsA_keep_arg5 (V : Valuation τ sig (Elt F)) :
    after opsA V (Proc.devRef .tc main_arg5) = V (Proc.devRef .tc main_arg5) := by
  unfold opsA
  simp only [hostOps1, List.take, List.drop]
  after_reads_simp

/-- The stretch of the attention does not write argument 6. -/
theorem opsA_keep_arg6 (V : Valuation τ sig (Elt F)) :
    after opsA V (Proc.devRef .tc main_arg6) = V (Proc.devRef .tc main_arg6) := by
  unfold opsA
  simp only [hostOps1, List.take, List.drop]
  after_reads_simp

/-- The stretch of the attention does not write argument 7. -/
theorem opsA_keep_arg7 (V : Valuation τ sig (Elt F)) :
    after opsA V (Proc.devRef .tc main_arg7) = V (Proc.devRef .tc main_arg7) := by
  unfold opsA
  simp only [hostOps1, List.take, List.drop]
  after_reads_simp

/-- The stretch of the attention does not write argument 10. -/
theorem opsA_keep_arg10 (V : Valuation τ sig (Elt F)) :
    after opsA V (Proc.devRef .tc main_arg10) = V (Proc.devRef .tc main_arg10) := by
  unfold opsA
  simp only [hostOps1, List.take, List.drop]
  after_reads_simp

/-- The stretch of the attention does not write argument 11. -/
theorem opsA_keep_arg11 (V : Valuation τ sig (Elt F)) :
    after opsA V (Proc.devRef .tc main_arg11) = V (Proc.devRef .tc main_arg11) := by
  unfold opsA
  simp only [hostOps1, List.take, List.drop]
  after_reads_simp

/-- The stretch of the first normalization does not write argument 4. -/
theorem opsB_keep_arg4 (V : Valuation τ sig (Elt F)) :
    after opsB V (Proc.devRef .tc main_arg4) = V (Proc.devRef .tc main_arg4) := by
  unfold opsB
  simp only [hostOps1, List.take, List.drop]
  after_reads_simp

/-- The stretch of the first normalization does not write argument 5. -/
theorem opsB_keep_arg5 (V : Valuation τ sig (Elt F)) :
    after opsB V (Proc.devRef .tc main_arg5) = V (Proc.devRef .tc main_arg5) := by
  unfold opsB
  simp only [hostOps1, List.take, List.drop]
  after_reads_simp

/-- The stretch of the first normalization does not write argument 6. -/
theorem opsB_keep_arg6 (V : Valuation τ sig (Elt F)) :
    after opsB V (Proc.devRef .tc main_arg6) = V (Proc.devRef .tc main_arg6) := by
  unfold opsB
  simp only [hostOps1, List.take, List.drop]
  after_reads_simp

/-- The stretch of the first normalization does not write argument 7. -/
theorem opsB_keep_arg7 (V : Valuation τ sig (Elt F)) :
    after opsB V (Proc.devRef .tc main_arg7) = V (Proc.devRef .tc main_arg7) := by
  unfold opsB
  simp only [hostOps1, List.take, List.drop]
  after_reads_simp

/-- The stretch of the first normalization does not write argument 10. -/
theorem opsB_keep_arg10 (V : Valuation τ sig (Elt F)) :
    after opsB V (Proc.devRef .tc main_arg10) = V (Proc.devRef .tc main_arg10) := by
  unfold opsB
  simp only [hostOps1, List.take, List.drop]
  after_reads_simp

/-- The stretch of the first normalization does not write argument 11. -/
theorem opsB_keep_arg11 (V : Valuation τ sig (Elt F)) :
    after opsB V (Proc.devRef .tc main_arg11) = V (Proc.devRef .tc main_arg11) := by
  unfold opsB
  simp only [hostOps1, List.take, List.drop]
  after_reads_simp

/-- The stretch of the feed-forward layer does not write argument 10. -/
theorem opsC_keep_arg10 (V : Valuation τ sig (Elt F)) :
    after opsC V (Proc.devRef .tc main_arg10) = V (Proc.devRef .tc main_arg10) := by
  unfold opsC
  simp only [hostOps1, List.take, List.drop]
  after_reads_simp

/-- The stretch of the feed-forward layer does not write argument 11. -/
theorem opsC_keep_arg11 (V : Valuation τ sig (Elt F)) :
    after opsC V (Proc.devRef .tc main_arg11) = V (Proc.devRef .tc main_arg11) := by
  unfold opsC
  simp only [hostOps1, List.take, List.drop]
  after_reads_simp

/-- The operations are the four stretches one after another. -/
theorem split (V : Valuation τ sig (Elt F)) :
    after hostOps1 V = after opsD (after opsC (after opsB (after opsA V))) := by
  rw [← after_append, ← after_append, ← after_append]
  rfl

/-- The result after all the operations, from what the projection left and the arguments. -/
theorem out_read (V : Valuation τ sig (Elt F)) :
    after hostOps1 V (Proc.devRef .tc main_v0) = outOf (F := F)
      (V (Proc.devRef .tc main_call0_v12_0)) (V (Proc.devRef .tc main_call0_v12_1))
      (V (Proc.devRef .tc main_call0_v12_2)) (V (Proc.devRef .tc main_arg0))
      (V (Proc.devRef .tc main_arg1)) (V (Proc.devRef .tc main_arg4)) (V (Proc.devRef .tc main_arg5))
      (V (Proc.devRef .tc main_arg6)) (V (Proc.devRef .tc main_arg7)) (V (Proc.devRef .tc main_arg8))
      (V (Proc.devRef .tc main_arg9)) (V (Proc.devRef .tc main_arg10))
      (V (Proc.devRef .tc main_arg11)) := by
  rw [split, opsD_read, opsC_read, opsB_read, opsA_read]
  rw [opsC_keep_arg10, opsC_keep_arg11,
    opsB_keep_arg4, opsB_keep_arg5, opsB_keep_arg6, opsB_keep_arg7, opsB_keep_arg10, opsB_keep_arg11,
    opsA_keep_arg0, opsA_keep_arg8, opsA_keep_arg9, opsA_keep_arg4, opsA_keep_arg5, opsA_keep_arg6, opsA_keep_arg7, opsA_keep_arg10, opsA_keep_arg11]
  rfl

end Cert.Proof.Tail

end
-- ==== Proof.Blocks.lean ====
/- What one block of the projection computes, and the three arrays the projection leaves. -/
module

public import proofs.«01_k».proof.Proof.Gen.KernelIdeal.Frame
public import Idealize.ShloMosaic.Lib.Pipeline.ValueKit
public import Idealize.ShloMosaic.Lib.Pointwise
public import Idealize.ShloMosaic.PureOps.Ideal.Laws

@[expose] public section

set_option maxRecDepth 16384

noncomputable section

namespace Cert.Proof.Blocks

open Cert.KernelIdeal Cert.KernelIdeal.Gen
open Idealize.ShloMosaic Idealize.ShloMosaic.TcCoe Idealize.SL.Sem

variable (m : (ℓ : Loc nD τ sig) → Buf (Elt Ideal) ℓ)

/-- The projected row of each node: the row times the matrix, plus the bias. -/
def projAt (x : Vec Ideal S10000x256 .f32) (w : Vec Ideal S256x768 .f32) (b : Vec Ideal S1x768 .f32)
    (n : Fin 10000) (j : Fin 768) : EReal :=
  ∑ k : Fin 256, x (ix2 n k) * w (ix2 k j) + b (ix2 0 j)

/-- Columns `off` to `off + 255` of the projected rows. -/
def proj (off : Nat) (hoff : off + 256 ≤ 768) (x : Vec Ideal S10000x256 .f32)
    (w : Vec Ideal S256x768 .f32) (b : Vec Ideal S1x768 .f32) : Vec Ideal S10000x256 .f32 := fun i =>
  projAt x w b (i 0) ⟨off + (i 1).val, lt_of_lt_of_le (Nat.add_lt_add_left (i 1).isLt off) hoff⟩

/-- One entry of the body's product plus bias. -/
theorem pay_apply (x : Vec Ideal S400x256 .f32) (w : Vec Ideal S256x768 .f32)
    (b : Vec Ideal S1x768 .f32) (i : S400x768.Idx) :
    k0_pay1 x w b i = ∑ k : Fin 256, x (ix2 (i 0) k) * w (ix2 k (i 1)) + b (ix2 0 (i 1)) := by
  pointwise [k0_pay1]

/-- The block each window shows at a grid point. -/
theorem idx_facts : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_5.index t = ![t.val, 0] :=
  (by decide +kernel : ∀ t : Fin grid0.N, _)

/-- One block of columns of the body's product plus bias. -/
theorem pay_cols (off : Nat) (hoff : off + 256 ≤ 768) (hs : S400x768.Slices ![0, off] S400x256)
    (x : Vec Ideal S400x256 .f32) (w : Vec Ideal S256x768 .f32) (b : Vec Ideal S1x768 .f32)
    (y : S400x256.Idx) :
    extractStridedSlice S400x256 ![0, off] (k0_pay1 x w b) hs y
      = ∑ k : Fin 256, x (ix2 (y 0) k)
          * w (ix2 k ⟨off + (y 1).val, lt_of_lt_of_le (Nat.add_lt_add_left (y 1).isLt off) hoff⟩)
        + b (ix2 0 ⟨off + (y 1).val, lt_of_lt_of_le (Nat.add_lt_add_left (y 1).isLt off) hoff⟩) := by
  refine (extractStridedSlice_apply ![0, off] _ hs y
    (ix2 (y 0) ⟨off + (y 1).val, lt_of_lt_of_le (Nat.add_lt_add_left (y 1).isLt off) hoff⟩)
    (by intro a; fin_cases a <;> simp [ix2])).trans ?_
  exact pay_apply x w b _

/-- The first output array ends holding columns 0 to 255 of the projected rows. -/
theorem arr3 (c : Dev nD) : (dats m 0 c).arrAt 3 cfg0.N
    = proj 0 (by norm_num) (V m c main_arg0) (V m c main_call0_v5) (V m c main_call0_v11) := by
  refine (dats m 0 c).arrAt_eq_of_covers 3 _ (by decide +kernel) fun t hf y => ?_
  obtain ⟨e0, e1, e2, e3, e4, e5⟩ := idx_facts t
  blk_simp
  rw [after0_3]; frame_out
  unfold k0_pay2
  refine (pay_cols 0 (by norm_num) _ _ _ _ y).trans ?_
  blk_simp [iblk, proj, projAt]
  refine congrArg₂ (· + ·) (Fin.sum_fin_congr fun k => congrArg₂ (· * ·) ?_ ?_) ?_ <;>
    blk_ext [e0, e1, e2, e3]

/-- The second output array ends holding columns 256 to 511 of the projected rows. -/
theorem arr4 (c : Dev nD) : (dats m 0 c).arrAt 4 cfg0.N
    = proj 256 (by norm_num) (V m c main_arg0) (V m c main_call0_v5) (V m c main_call0_v11) := by
  refine (dats m 0 c).arrAt_eq_of_covers 4 _ (by decide +kernel) fun t hf y => ?_
  obtain ⟨e0, e1, e2, e3, e4, e5⟩ := idx_facts t
  blk_simp
  rw [after0_4]; frame_out
  unfold k0_pay3
  refine (pay_cols 256 (by norm_num) _ _ _ _ y).trans ?_
  blk_simp [iblk, proj, projAt]
  refine congrArg₂ (· + ·) (Fin.sum_fin_congr fun k => congrArg₂ (· * ·) ?_ ?_) ?_ <;>
    blk_ext [e0, e1, e2, e4]

/-- The third output array ends holding columns 512 to 767 of the projected rows. -/
theorem arr5 (c : Dev nD) : (dats m 0 c).arrAt 5 cfg0.N
    = proj 512 (by norm_num) (V m c main_arg0) (V m c main_call0_v5) (V m c main_call0_v11) := by
  refine (dats m 0 c).arrAt_eq_of_covers 5 _ (by decide +kernel) fun t hf y => ?_
  obtain ⟨e0, e1, e2, e3, e4, e5⟩ := idx_facts t
  blk_simp
  rw [after0_5]; frame_out
  unfold k0_pay4
  refine (pay_cols 512 (by norm_num) _ _ _ _ y).trans ?_
  blk_simp [iblk, proj, projAt]
  refine congrArg₂ (· + ·) (Fin.sum_fin_congr fun k => congrArg₂ (· * ·) ?_ ?_) ?_ <;>
    blk_ext [e0, e1, e2, e5]

end Cert.Proof.Blocks

end
-- ==== Proof.Entry.lean ====
/- What the host operations before the projection leave: the permuted matrix and the permuted bias. -/
module

public import proofs.«01_k».proof.Proof.Gen.KernelIdeal.Frame
public import Idealize.ShloMosaic.Lib.StableHlo.Run
public import Idealize.ShloMosaic.Lib.StableHlo.RunRead
public import Idealize.ShloMosaic.Lib.Routing.Ops
public import Idealize.ShloMosaic.Lib.Routing.OpsSet
public import Idealize.ShloMosaic.Lib.Pointwise

@[expose] public section

set_option maxRecDepth 16384

noncomputable section

namespace Cert.Proof.Entry

open Cert.KernelIdeal Cert.KernelIdeal.Gen
open Idealize.ShloMosaic Idealize.ShloMosaic.TcCoe Idealize.SL.Sem Idealize.ShloMosaic.StableHlo

variable {F : FTy → Type} [FloatOps F]

/-- The table of row numbers as a column. -/
def permCol : Vec F S768x1 .i32 :=
  broadcastInDim S768x1 ![0] bcast_S768_S768x1_0
    (select (constantI S768 1 0#1)
      (addi (fun i => lit0 (S768.rowMajor i)) (broadcastInDim S768 ![] bcast_S_S768 (constantI S_ 32 768#32)))
      (fun i => lit0 (S768.rowMajor i)))

/-- The matrix the projection multiplies by. -/
def wOf (W : Vec F S768x256 .f32) : Vec F S256x768 .f32 :=
  transpose S256x768 [1, 0] (Host.gather gather_S768x256_S768x1_S768x256_1_0_n_n_0_1_1256 W (permCol (F := F)))
    transposes_S768x256_S256x768_1_0

/-- The bias the projection adds. -/
def bOf (b : Vec F S768 .f32) : Vec F S1x768 .f32 :=
  shapeCast _ (Host.gather gather_S768_S768x1_S768_n_0_n_n_0_1_1 b (permCol (F := F))) shapeCasts_S768_S1x768

/-- The operations before the projection leave the permuted matrix. -/
theorem w_read (V : Valuation τ sig (Elt F)) :
    after hostOps0 V (Proc.devRef .tc main_call0_v5) = wOf (F := F) (V (Proc.devRef .tc main_arg2)) := by
  simp only [hostOps0]
  after_reads_simp
  rfl

/-- The operations before the projection leave the permuted bias. -/
theorem b_read (V : Valuation τ sig (Elt F)) :
    after hostOps0 V (Proc.devRef .tc main_call0_v11) = bOf (F := F) (V (Proc.devRef .tc main_arg3)) := by
  simp only [hostOps0]
  after_reads_simp
  rfl

/-- The row of the matrix that column `j` of the projection uses: `j` counts the third, the head and the entry,
    the rows count the head, the third and the entry. -/
def permN (j : Fin 768) : Fin 768 :=
  ⟨j.val % 256 / 32 * 96 + j.val / 256 * 32 + j.val % 32, by omega⟩

/-- The table holds the row numbers. -/
theorem lit0_eq : ∀ j : Fin 768, lit0 j = BitVec.ofNat 32 (permN j).val := by decide +kernel

/-- The column of row numbers at an entry. -/
theorem permCol_apply (j : Fin 768) :
    permCol (F := F) (ix2 j (0 : Fin 1)) = BitVec.ofNat 32 (permN j).val := by
  rw [← lit0_eq]
  unfold permCol
  pointwise []
  exact congrArg lit0 (Fin.ext (Shape.rowMajor_val_one _))

/-- The permuted matrix at an entry. -/
theorem wOf_apply (W : Vec F S768x256 .f32) (k : Fin 256) (j : Fin 768) :
    wOf W (ix2 k j) = W (ix2 (permN j) k) := by
  unfold wOf
  pointwise []
  exact Routing.gather_row gather_S768x256_S768x1_S768x256_1_0_n_n_0_1_1256 rfl rfl rfl rfl rfl W _ j k (permN j)
    (permCol_apply j) (by norm_num)

/-- The permuted bias at an entry. -/
theorem bOf_apply (b : Vec F S768 .f32) (j : Fin 768) :
    bOf b (ix2 0 j) = b (ix1 (permN j)) := by
  unfold bOf
  refine (Routing.cast12 _ _ 0 j j (by simp)).trans ?_
  exact Routing.gather_take1 gather_S768_S768x1_S768_n_0_n_n_0_1_1 rfl rfl rfl rfl b _ j (permN j)
    (permCol_apply j) (by norm_num)

end Cert.Proof.Entry

end
-- ==== Proof.Reals.lean ====
/- Facts about extended reals: sums and products of finite numbers, the quotient of two weighted sums of
   exponentials, division by a square root. -/
module

public import Idealize.ShloMosaic.PureOps.Ideal
public import Idealize.ShloMosaic.PureOps.Ideal.Laws

@[expose] public section

noncomputable section

namespace Cert.Proof.Reals

open Idealize.ShloMosaic

/-- An extended real that is a real number. -/
def IsReal (x : EReal) : Prop := ∃ r : ℝ, x = (r : EReal)

/-- Zero is a real number. -/
theorem IsReal.zero : IsReal 0 := ⟨0, by simp⟩

/-- The sum of two real numbers is one. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is one. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of coerced real numbers is the coerced sum. -/
theorem coe_sum {ι : Type*} (S : Finset ι) (f : ι → ℝ) :
    ∑ i ∈ S, (f i : EReal) = ((∑ i ∈ S, f i : ℝ) : EReal) := by
  classical
  induction S using Finset.induction_on with
  | empty => simp
  | insert i S hi ih => rw [Finset.sum_insert hi, Finset.sum_insert hi, ih, EReal.coe_add]

/-- A sum of real numbers is one. -/
theorem IsReal.sum {ι : Type*} (S : Finset ι) (f : ι → EReal) (hf : ∀ i, IsReal (f i)) :
    IsReal (∑ i ∈ S, f i) := by
  choose g hg using hf
  refine ⟨∑ i ∈ S, g i, ?_⟩
  rw [← coe_sum]
  exact Finset.sum_congr rfl fun i _ => hg i

/-- A number whose absolute value lies below infinity is real. -/
theorem IsReal.of_abs_lt {x : EReal} (h : max x (-x) < ⊤) : IsReal x := by
  induction x using EReal.rec with
  | bot => simp at h
  | top => simp at h
  | coe r => exact ⟨r, rfl⟩

/-- Division of real numbers, the divisor not zero. -/
theorem div_coe (a b : ℝ) (hb : b ≠ 0) : Ideal.div (a : EReal) (b : EReal) = ((a / b : ℝ) : EReal) := by
  have h : (b : EReal) ≠ 0 := fun e => hb (by exact_mod_cast e)
  rw [Ideal.div, if_neg h, ← EReal.coe_inv, ← EReal.coe_mul, div_eq_mul_inv]

/-- Dividing by the square root of a positive number multiplies by its reciprocal square root. -/
theorem div_sqrt (a y : EReal) (hy : 0 < y) : Ideal.div a (Ideal.sqrt y) = a * Ideal.rsqrt y := by
  induction y using EReal.rec with
  | bot => simp at hy
  | top => simp [Ideal.div]
  | coe r =>
    have hr : 0 < r := by exact_mod_cast hy
    have hs : Real.sqrt r ≠ 0 := (Real.sqrt_pos.mpr hr).ne'
    have h0 : ((Real.sqrt r : ℝ) : EReal) ≠ 0 := fun e => hs (by exact_mod_cast e)
    have h1 : Ideal.sqrt (r : EReal) = ((Real.sqrt r : ℝ) : EReal) := by
      rw [Ideal.sqrt_coe, if_neg hr.not_gt]
    rw [h1, Ideal.rsqrt_coe, if_neg hr.not_gt, if_neg hr.ne', Ideal.div, if_neg h0, EReal.coe_inv]

/-- A square is not negative. -/
theorem mul_self_nonneg (t : EReal) : 0 ≤ t * t := by
  induction t using EReal.rec with
  | bot => simp
  | top => simp
  | coe r =>
    rw [← EReal.coe_mul]
    exact_mod_cast _root_.mul_self_nonneg r

/-- The weighted average by exponentials does not change when every logit is shifted by the same number: the
    quotient of the two sums, the divisor replaced by one where it is zero, is the sum of the weights divided
    one by one. -/
theorem softmax_shift {ι : Type*} (S : Finset ι) (a v : ι → ℝ) (c : ℝ) :
    Ideal.div (∑ i ∈ S, Ideal.exp (a i : EReal) * (v i : EReal))
        (if (∑ i ∈ S, Ideal.exp (a i : EReal)) = 0 then 1 else ∑ i ∈ S, Ideal.exp (a i : EReal))
      = ∑ i ∈ S, Ideal.div (Ideal.exp ((a i : EReal) - (c : EReal)))
          (∑ j ∈ S, Ideal.exp ((a j : EReal) - (c : EReal))) * (v i : EReal) := by
  have hk : ∑ i ∈ S, Ideal.exp (a i : EReal) = ((∑ i ∈ S, Real.exp (a i) : ℝ) : EReal) := coe_sum S _
  have hn : ∑ i ∈ S, Ideal.exp (a i : EReal) * (v i : EReal)
      = ((∑ i ∈ S, Real.exp (a i) * v i : ℝ) : EReal) := by
    rw [← coe_sum]
    exact Finset.sum_congr rfl fun i _ => (EReal.coe_mul _ _).symm
  have hd : ∑ j ∈ S, Ideal.exp ((a j : EReal) - (c : EReal))
      = ((∑ j ∈ S, Real.exp (a j - c) : ℝ) : EReal) := by
    rw [← coe_sum]
    exact Finset.sum_congr rfl fun i _ => by rw [← EReal.coe_sub]; rfl
  rw [hk, hn, hd]
  rcases S.eq_empty_or_nonempty with rfl | hS
  · simp [Ideal.div]
  have pk : 0 < ∑ i ∈ S, Real.exp (a i) := Finset.sum_pos (fun i _ => Real.exp_pos _) hS
  have pd : 0 < ∑ i ∈ S, Real.exp (a i - c) := Finset.sum_pos (fun i _ => Real.exp_pos _) hS
  have hk0 : ((∑ i ∈ S, Real.exp (a i) : ℝ) : EReal) ≠ 0 := fun e => pk.ne' (by exact_mod_cast e)
  rw [if_neg hk0, div_coe _ _ pk.ne']
  have ht : ∀ i ∈ S, Ideal.div (Ideal.exp ((a i : EReal) - (c : EReal)))
        ((∑ j ∈ S, Real.exp (a j - c) : ℝ) : EReal) * (v i : EReal)
      = ((Real.exp (a i - c) / (∑ j ∈ S, Real.exp (a j - c)) * v i : ℝ) : EReal) := fun i _ => by
    rw [EReal.coe_mul, ← div_coe _ _ pd.ne', ← EReal.coe_sub]
    rfl
  rw [Finset.sum_congr rfl ht, coe_sum, EReal.coe_eq_coe_iff]
  have hs : ∑ j ∈ S, Real.exp (a j - c) = (∑ j ∈ S, Real.exp (a j)) / Real.exp c := by
    rw [Finset.sum_div]
    exact Finset.sum_congr rfl fun i _ => Real.exp_sub _ _
  rw [hs, Finset.sum_div]
  refine Finset.sum_congr rfl fun i _ => ?_
  rw [Real.exp_sub]
  have hc := (Real.exp_pos c).ne'
  field_simp

end Cert.Proof.Reals

end
-- ==== Proof.Qkv.lean ====
/- The kernel's three projected arrays, cut into heads, are the reference's queries, keys and values. -/
module

public import proofs.«01_k».proof.Proof.Tail
public import proofs.«01_k».proof.Proof.Blocks
public import proofs.«01_k».proof.Proof.Entry
public import proofs.«01_k».proof.Proof.Reals
public import proofs.«01_k».proof.Proof.Gen.ReferenceIdeal.Read

@[expose] public section

set_option maxRecDepth 16384

noncomputable section

namespace Cert.Proof.Qkv

open Cert.KernelIdeal Cert.KernelIdeal.Gen Cert.Proof.Tail Cert.Proof.Blocks Cert.Proof.Entry Cert.Proof.Reals
open Cert.ReferenceIdeal.Read
open Idealize.ShloMosaic Idealize.ShloMosaic.TcCoe Idealize.SL.Sem

variable (x : Vec Ideal S10000x256 .f32) (W : Vec Ideal S768x256 .f32) (b : Vec Ideal S768 .f32)

/-- Entry `j` of the projection of node `n`. -/
def lin (n : Fin 10000) (j : Fin 768) : EReal :=
  ∑ k : Fin 256, x (ix2 n k) * W (ix2 j k) + b (ix1 j)

/-- An entry of a projected array is the entry of the projection that the permutation names. -/
theorem proj_apply (off : Nat) (hoff : off + 256 ≤ 768) (i : S10000x256.Idx) :
    proj off hoff x (wOf W) (bOf b) i = lin x W b (i 0)
      (permN ⟨off + (i 1).val, lt_of_lt_of_le (Nat.add_lt_add_left (i 1).isLt off) hoff⟩) := by
  unfold proj projAt lin
  rw [bOf_apply]
  refine congrArg (· + _) (Finset.sum_congr rfl fun k _ => ?_)
  rw [wOf_apply]

/-- A row cut into heads at an entry. -/
theorem heads_apply (a : Vec Ideal S10000x256 .f32) (n : Fin 10000) (h : Fin 8) (d : Fin 32) :
    heads a (ix3 n h d) = a (ix2 n ⟨h.val * 32 + d.val, by omega⟩) := by
  unfold heads
  refine shapeCast_apply a _ _ _ ?_
  rw [Shape.rowMajor_val_two, Shape.rowMajor_val_three]
  show n.val * 256 + (h.val * 32 + d.val) = (n.val * 8 + h.val) * 32 + d.val
  omega

/-- The reference's projection at an entry. -/
theorem ref_lin (i : Cert.ReferenceIdeal.S10000x768.Idx) : val_main_v4 (F := Ideal) x W b i = lin x W b (i 0) (i 1) := by
  rw [val_main_v4_apply, val_main_v1_apply, val_main_v3_apply, val_main_v2_apply]
  unfold lin
  refine congrArg₂ (· + ·) (Finset.sum_congr rfl fun k _ => ?_) (congrArg b ?_)
  · rw [val_main_v0_apply]
    refine congrArg₂ (· * ·) (congrArg x ?_) (congrArg W ?_) <;>
      (funext a; fin_cases a <;> rfl)
  · funext a; fin_cases a; rfl

/-- The reference's projection cut into heads at an entry. -/
theorem ref_heads (i : Cert.ReferenceIdeal.S10000x8x96.Idx) : val_main_v5 (F := Ideal) x W b i
    = lin x W b (i 0) ⟨(i 1).val * 96 + (i 2).val, by
        have h1 : (i 1).val < 8 := (i 1).isLt
        have h2 : (i 2).val < 96 := (i 2).isLt
        omega⟩ := by
  have h0 : (i 0).val < 10000 := (i 0).isLt
  have h1 : (i 1).val < 8 := (i 1).isLt
  have h2 : (i 2).val < 96 := (i 2).isLt
  rw [val_main_v5_apply, ref_lin]
  refine congrArg₂ (lin x W b) (Fin.ext ?_) (Fin.ext ?_)
  · show (((i 0).val * 8 + (i 1).val) * 96 + (i 2).val) / 768 = (i 0).val
    omega
  · show (((i 0).val * 8 + (i 1).val) * 96 + (i 2).val) % 768 = (i 1).val * 96 + (i 2).val
    omega

/-- The first array cut into heads is the reference's queries. -/
theorem queries (h0 : 0 + 256 ≤ 768) :
    heads (proj 0 h0 x (wOf W) (bOf b)) = val_main_v6 (F := Ideal) x W b := by
  funext i
  obtain ⟨n, h, d, rfl⟩ : ∃ (n : Fin 10000) (h : Fin 8) (d : Fin 32), i = ix3 n h d :=
    ⟨i 0, i 1, i 2, eq_ix3 i⟩
  rw [heads_apply, proj_apply, val_main_v6_apply, ref_heads]
  refine congrArg (lin x W b _) (Fin.ext ?_)
  show (0 + (h.val * 32 + d.val)) % 256 / 32 * 96 + (0 + (h.val * 32 + d.val)) / 256 * 32
    + (0 + (h.val * 32 + d.val)) % 32 = h.val * 96 + d.val
  omega

/-- The second array cut into heads is the reference's keys. -/
theorem keys (h0 : 256 + 256 ≤ 768) :
    heads (proj 256 h0 x (wOf W) (bOf b)) = val_main_v7 (F := Ideal) x W b := by
  funext i
  obtain ⟨n, h, d, rfl⟩ : ∃ (n : Fin 10000) (h : Fin 8) (d : Fin 32), i = ix3 n h d :=
    ⟨i 0, i 1, i 2, eq_ix3 i⟩
  rw [heads_apply, proj_apply, val_main_v7_apply, ref_heads]
  refine congrArg (lin x W b _) (Fin.ext ?_)
  show (256 + (h.val * 32 + d.val)) % 256 / 32 * 96 + (256 + (h.val * 32 + d.val)) / 256 * 32
    + (256 + (h.val * 32 + d.val)) % 32 = h.val * 96 + (32 + d.val)
  omega

/-- The third array cut into heads is the reference's values. -/
theorem values (h0 : 512 + 256 ≤ 768) :
    heads (proj 512 h0 x (wOf W) (bOf b)) = val_main_v8 (F := Ideal) x W b := by
  funext i
  obtain ⟨n, h, d, rfl⟩ : ∃ (n : Fin 10000) (h : Fin 8) (d : Fin 32), i = ix3 n h d :=
    ⟨i 0, i 1, i 2, eq_ix3 i⟩
  rw [heads_apply, proj_apply, val_main_v8_apply, ref_heads]
  refine congrArg (lin x W b _) (Fin.ext ?_)
  show (512 + (h.val * 32 + d.val)) % 256 / 32 * 96 + (512 + (h.val * 32 + d.val)) / 256 * 32
    + (512 + (h.val * 32 + d.val)) % 32 = h.val * 96 + (64 + d.val)
  omega

variable (hx : ∀ i, IsReal (x i)) (hW : ∀ i, IsReal (W i)) (hb : ∀ i, IsReal (b i))
include hx hW hb

/-- Where the features, the matrix and the bias are finite, so is the projection. -/
theorem proj_real (off : Nat) (hoff : off + 256 ≤ 768) (i : S10000x256.Idx) :
    IsReal (proj off hoff x (wOf W) (bOf b) i) := by
  rw [proj_apply]
  exact (IsReal.sum _ _ fun k => (hx _).mul (hW _)).add (hb _)

/-- The same for the projection cut into heads. -/
theorem heads_real (off : Nat) (hoff : off + 256 ≤ 768) (i : S10000x8x32.Idx) :
    IsReal (heads (proj off hoff x (wOf W) (bOf b)) i) :=
  proj_real x W b hx hW hb off hoff _

end Cert.Proof.Qkv

end
-- ==== Proof.Ref.lean ====
/- The reference's result in the words of `Tail`: the same logits and feed-forward layer, the reference's own
   attention weights and normalization. -/
module

public import proofs.«01_k».proof.Proof.Tail
public import proofs.«01_k».proof.Proof.Gen.ReferenceIdeal.Read

@[expose] public section

set_option maxRecDepth 16384

noncomputable section

namespace Cert.Proof.Ref

open Cert.KernelIdeal Cert.KernelIdeal.Gen Cert.Proof.Tail Cert.ReferenceIdeal.Read
open Idealize.ShloMosaic Idealize.ShloMosaic.TcCoe Idealize.SL.Sem Idealize.ShloMosaic.StableHlo

variable {F : FTy → Type} [FloatOps F]

/-- One number for each node and head, read for every edge at the edge's node. -/
def takeN (a : Vec F S10000x8 .f32) (e : Vec F S2x160000 .i32) : Vec F S160000x8 .f32 :=
  Host.gather Cert.ReferenceIdeal.gather_S10000x8_S160000x1_S160000x8_1_0_n_n_0_1_18 a (rowOf (srcOf e))

/-- The shift of each node and head: its largest logit where that is finite, zero elsewhere. -/
def safeOf (t : Vec F S10000x8 .f32) : Vec F S10000x8 .f32 :=
  select (cmpf .olt (Host.absf t) (broadcastInDim S10000x8 ![] bcast_S_S10000x8 (constant S_ .f32 0x7F800000#32)))
    t (broadcastInDim S10000x8 ![] bcast_S_S10000x8 (id (constant S_ .f32 0x00000000#32)))

/-- The exponentials of the shifted logits. -/
def refExp (t : Vec F S10000x8 .f32) (a : Vec F S160000x8 .f32) (e : Vec F S2x160000 .i32) :
    Vec F S160000x8 .f32 :=
  Host.exp (subf a (takeN (safeOf t) e))

/-- The reference's attention from the exponentials: each divided by its node's sum, then the weighted sum. -/
def refAttnOf (w : Vec F S160000x8 .f32) (v : Vec F S10000x8x32 .f32) (e : Vec F S2x160000 .i32) :
    Vec F S10000x8x32 .f32 :=
  sum32 (mulf (spreadE (Host.divf w (takeN (sum8 w e) e))) (take v (dstOf e))) e

/-- The reference's normalization: it divides by the square root. -/
def refNormOf (x : Vec F S10000x256 .f32) (g b : Vec F S256 .f32) : Vec F S10000x256 .f32 :=
  addf (mulf (Host.divf (centred x) (across (Host.sqrt (spreadOf x)))) (down g)) (down b)

variable (x0 : Vec F S10000x256 .f32) (x1 : Vec F S2x160000 .i32) (x2 : Vec F S768x256 .f32)
  (x3 : Vec F S768 .f32) (x4 : Vec F S1024x256 .f32) (x5 : Vec F S1024 .f32)
  (x6 : Vec F S256x1024 .f32) (x7 x8 x9 x10 x11 : Vec F S256 .f32)

/-- The reference's logits. -/
theorem logits : val_main_v30 (F := F) x0 x1 x2 x3
    = alphaOf (val_main_v6 (F := F) x0 x2 x3) (val_main_v7 (F := F) x0 x2 x3) x1 := rfl

/-- The reference's exponentials. -/
theorem exps : val_main_v52 (F := F) x0 x1 x2 x3
    = refExp (val_main_v39 (F := F) x0 x1 x2 x3) (val_main_v30 (F := F) x0 x1 x2 x3) x1 := rfl

/-- The reference's attention. -/
theorem attention : val_main_v76 (F := F) x0 x1 x2 x3
    = refAttnOf (val_main_v52 (F := F) x0 x1 x2 x3) (val_main_v8 (F := F) x0 x2 x3) x1 := rfl

/-- The reference's first normalization. -/
theorem first : val_main_v102 (F := F) x0 x1 x2 x3 x8 x9
    = refNormOf (addf x0 (flat (val_main_v76 (F := F) x0 x1 x2 x3))) x8 x9 := rfl

/-- The reference's feed-forward layer. -/
theorem feed : val_main_v115 (F := F) x0 x1 x2 x3 x4 x5 x6 x7 x8 x9
    = ffnOf (val_main_v102 (F := F) x0 x1 x2 x3 x8 x9) x4 x5 x6 x7 := rfl

/-- The reference's second normalization. -/
theorem second : val_main_v139 (F := F) x0 x1 x2 x3 x4 x5 x6 x7 x8 x9 x10 x11
    = refNormOf (val_main_v115 (F := F) x0 x1 x2 x3 x4 x5 x6 x7 x8 x9) x10 x11 := rfl

/-- The reference's result. -/
theorem result : val_main_v139 (F := F) x0 x1 x2 x3 x4 x5 x6 x7 x8 x9 x10 x11
    = refNormOf (ffnOf (refNormOf (addf x0 (flat (refAttnOf
        (refExp (val_main_v39 (F := F) x0 x1 x2 x3)
          (alphaOf (val_main_v6 (F := F) x0 x2 x3) (val_main_v7 (F := F) x0 x2 x3) x1) x1)
        (val_main_v8 (F := F) x0 x2 x3) x1))) x8 x9) x4 x5 x6 x7) x10 x11 := by
  rw [second, feed, first, attention, exps, logits]

end Cert.Proof.Ref

end
-- ==== Proof.Edges.lean ====
/- The sums over each node's edges and the reads at each edge's node. -/
module

public import proofs.«01_k».proof.Proof.Ref
public import proofs.«01_k».proof.Proof.Reals
public import Idealize.ShloMosaic.Lib.Routing.Ops
public import Idealize.ShloMosaic.Lib.Routing.OpsPair
public import Idealize.ShloMosaic.Lib.Pointwise

@[expose] public section

set_option maxRecDepth 16384

noncomputable section

namespace Cert.Proof.Edges

open Cert.KernelIdeal Cert.KernelIdeal.Gen Cert.Proof.Tail Cert.Proof.Ref Cert.Proof.Reals
open Idealize.ShloMosaic Idealize.ShloMosaic.TcCoe Idealize.SL.Sem Idealize.ShloMosaic.StableHlo

/-- The edges of node `n`. -/
def edges (e : Vec Ideal S2x160000 .i32) (n : Fin 10000) : Finset (Fin 160000) :=
  Finset.univ.filter fun i => (srcOf e (ix1 i)).toInt = (n.val : Int)

/-- A column at an entry. -/
theorem colOf_apply (s : Vec Ideal S160000 .i32) (i : Fin 160000) : colOf s (ix2 i (0 : Fin 1)) = s (ix1 i) := by
  unfold colOf
  pointwise []

/-- Where an edge's number for a head lands. -/
theorem lands8 (s : Vec Ideal S160000 .i32) (j : S160000x8.Idx) (n : Fin 10000) (h : Fin 8) :
    scatter_S10000x8_S160000x1_S160000x8_1_0_0_1.resultIdx? j (colOf s) = some (ix2 n h)
      ↔ (s (ix1 (j 0))).toInt = (n.val : Int) ∧ (j 1).val = h.val := by
  rw [Routing.resultIdx?_eq_some]
  have h0 : scatter_S10000x8_S160000x1_S160000x8_1_0_0_1.start j (colOf s) 0 = (s (ix1 (j 0))).toInt := by
    refine Eq.trans ?_ (congrArg BitVec.toInt (colOf_apply s (j 0)))
    refine congrArg (fun k => (colOf s k).toInt) (funext fun b => ?_)
    fin_cases b <;> rfl
  have h1 : scatter_S10000x8_S160000x1_S160000x8_1_0_0_1.start j (colOf s) 1 = 0 := rfl
  have w0 : scatter_S10000x8_S160000x1_S160000x8_1_0_0_1.window j 0 = 0 := rfl
  have w1 : scatter_S10000x8_S160000x1_S160000x8_1_0_0_1.window j 1 = (j 1).val := rfl
  constructor
  · intro q
    have q0 := q 0
    have q1 := q 1
    rw [h0, w0] at q0
    rw [h1, w1] at q1
    refine ⟨by simpa using q0, ?_⟩
    have : ((j 1).val : Int) = (h.val : Int) := by simpa using q1
    exact_mod_cast this
  · rintro ⟨q0, q1⟩ a
    fin_cases a
    · show _ + _ = (n.val : Int)
      erw [h0, w0, q0]
      simp
    · show _ + _ = (h.val : Int)
      erw [h1, w1, q1]
      simp

/-- Where an edge's number for an entry of a head lands. -/
theorem lands32 (s : Vec Ideal S160000 .i32) (j : S160000x8x32.Idx) (n : Fin 10000) (h : Fin 8) (d : Fin 32) :
    scatter_S10000x8x32_S160000x1_S160000x8x32_12_0_0_1.resultIdx? j (colOf s) = some (ix3 n h d)
      ↔ (s (ix1 (j 0))).toInt = (n.val : Int) ∧ (j 1).val = h.val ∧ (j 2).val = d.val := by
  rw [Routing.resultIdx?_eq_some]
  have h0 : scatter_S10000x8x32_S160000x1_S160000x8x32_12_0_0_1.start j (colOf s) 0 = (s (ix1 (j 0))).toInt := by
    refine Eq.trans ?_ (congrArg BitVec.toInt (colOf_apply s (j 0)))
    refine congrArg (fun k => (colOf s k).toInt) (funext fun b => ?_)
    fin_cases b <;> rfl
  have h1 : scatter_S10000x8x32_S160000x1_S160000x8x32_12_0_0_1.start j (colOf s) 1 = 0 := rfl
  have h2 : scatter_S10000x8x32_S160000x1_S160000x8x32_12_0_0_1.start j (colOf s) 2 = 0 := rfl
  have w0 : scatter_S10000x8x32_S160000x1_S160000x8x32_12_0_0_1.window j 0 = 0 := rfl
  have w1 : scatter_S10000x8x32_S160000x1_S160000x8x32_12_0_0_1.window j 1 = (j 1).val := rfl
  have w2 : scatter_S10000x8x32_S160000x1_S160000x8x32_12_0_0_1.window j 2 = (j 2).val := rfl
  constructor
  · intro q
    have q0 := q 0
    have q1 := q 1
    have q2 := q 2
    rw [h0, w0] at q0
    rw [h1, w1] at q1
    rw [h2, w2] at q2
    have r1 : ((j 1).val : Int) = (h.val : Int) := by simpa using q1
    have r2 : ((j 2).val : Int) = (d.val : Int) := by simpa using q2
    exact ⟨by simpa using q0, by exact_mod_cast r1, by exact_mod_cast r2⟩
  · rintro ⟨q0, q1, q2⟩ a
    fin_cases a
    · show _ + _ = (n.val : Int)
      erw [h0, w0, q0]
      simp
    · show _ + _ = (h.val : Int)
      erw [h1, w1, q1]
      simp
    · show _ + _ = (d.val : Int)
      erw [h2, w2, q2]
      simp

/-- The sum over a node's edges, for a head. -/
theorem sum8_apply (w : Vec Ideal S160000x8 .f32) (e : Vec Ideal S2x160000 .i32) (n : Fin 10000) (h : Fin 8) :
    sum8 w e (ix2 n h) = ∑ i ∈ edges e n, w (ix2 i h) := by
  show Ideal.ofBits .f32 0x00000000#32 + ∑ j ∈ Finset.univ.filter (fun j =>
    scatter_S10000x8_S160000x1_S160000x8_1_0_0_1.resultIdx? j (colOf (srcOf e)) = some (ix2 n h)), w j = _
  rw [Ideal.ofBits_zero_f32, zero_add]
  refine Finset.sum_nbij' (fun j => (j 0 : Fin 160000)) (fun i => (ix2 i h : S160000x8.Idx)) ?_ ?_ ?_ ?_ ?_
  · intro j hj
    exact Finset.mem_filter.mpr ⟨Finset.mem_univ _, ((lands8 _ _ _ _).mp (Finset.mem_filter.mp hj).2).1⟩
  · intro i hi
    exact Finset.mem_filter.mpr ⟨Finset.mem_univ _, (lands8 _ _ _ _).mpr ⟨(Finset.mem_filter.mp hi).2, rfl⟩⟩
  · intro j hj
    have q := (lands8 _ _ _ _).mp (Finset.mem_filter.mp hj).2
    funext a
    fin_cases a
    · rfl
    · exact Fin.ext q.2.symm
  · intro i _
    rfl
  · intro j hj
    have q := (lands8 _ _ _ _).mp (Finset.mem_filter.mp hj).2
    refine congrArg w (funext fun a => ?_)
    fin_cases a
    · rfl
    · exact Fin.ext q.2

/-- The sum over a node's edges, for an entry of a head. -/
theorem sum32_apply (w : Vec Ideal S160000x8x32 .f32) (e : Vec Ideal S2x160000 .i32) (n : Fin 10000) (h : Fin 8)
    (d : Fin 32) : sum32 w e (ix3 n h d) = ∑ i ∈ edges e n, w (ix3 i h d) := by
  show Ideal.ofBits .f32 0x00000000#32 + ∑ j ∈ Finset.univ.filter (fun j =>
    scatter_S10000x8x32_S160000x1_S160000x8x32_12_0_0_1.resultIdx? j (colOf (srcOf e)) = some (ix3 n h d)), w j = _
  rw [Ideal.ofBits_zero_f32, zero_add]
  refine Finset.sum_nbij' (fun j => (j 0 : Fin 160000)) (fun i => (ix3 i h d : S160000x8x32.Idx)) ?_ ?_ ?_ ?_ ?_
  · intro j hj
    exact Finset.mem_filter.mpr ⟨Finset.mem_univ _, ((lands32 _ _ _ _ _).mp (Finset.mem_filter.mp hj).2).1⟩
  · intro i hi
    exact Finset.mem_filter.mpr ⟨Finset.mem_univ _, (lands32 _ _ _ _ _).mpr ⟨(Finset.mem_filter.mp hi).2, rfl, rfl⟩⟩
  · intro j hj
    have q := (lands32 _ _ _ _ _).mp (Finset.mem_filter.mp hj).2
    funext a
    fin_cases a
    · rfl
    · exact Fin.ext q.2.1.symm
    · exact Fin.ext q.2.2.symm
  · intro i _
    rfl
  · intro j hj
    have q := (lands32 _ _ _ _ _).mp (Finset.mem_filter.mp hj).2
    refine congrArg w (funext fun a => ?_)
    fin_cases a
    · rfl
    · exact Fin.ext q.2.1
    · exact Fin.ext q.2.2

/-- The row an edge of node `n` reads is `n`. -/
theorem rowOf_edge (e : Vec Ideal S2x160000 .i32) (n : Fin 10000) (i : Fin 160000) (hi : i ∈ edges e n) :
    rowOf (srcOf e) (ix2 i (0 : Fin 1)) = BitVec.ofNat 32 n.val := by
  have hs : (srcOf e (ix1 i)).toInt = (n.val : Int) := (Finset.mem_filter.mp hi).2
  have hn := n.isLt
  have hb : srcOf e (ix1 i) = BitVec.ofNat 32 n.val :=
    BitVec.eq_of_toInt_eq (hs.trans (Predicate.toInt_ofNat_small _ (by omega)).symm)
  unfold rowOf
  rw [colOf_apply]
  refine (Routing.wrap_of_lt (srcOf e (ix1 i)) _ ?_).trans hb
  rw [hb, BitVec.toNat_ofNat]
  omega

/-- A number for each node and head, read at an edge of node `n`, is the number of node `n`. -/
theorem takeN_edge (a : Vec Ideal S10000x8 .f32) (e : Vec Ideal S2x160000 .i32) (n : Fin 10000) (i : Fin 160000)
    (hi : i ∈ edges e n) (h : Fin 8) : takeN a e (ix2 i h) = a (ix2 n h) :=
  Routing.gather_row Cert.ReferenceIdeal.gather_S10000x8_S160000x1_S160000x8_1_0_n_n_0_1_18 rfl rfl rfl rfl rfl a _
    i h n (rowOf_edge e n i hi) (by norm_num)

end Cert.Proof.Edges

end
-- ==== Proof.Attention.lean ====
/- The two attentions agree where the logits and the values are finite. -/
module

public import proofs.«01_k».proof.Proof.Edges
public import Idealize.ShloMosaic.Lib.IdealHost

@[expose] public section

set_option maxRecDepth 16384

noncomputable section

namespace Cert.Proof.Attention

open Cert.KernelIdeal Cert.KernelIdeal.Gen Cert.Proof.Tail Cert.Proof.Ref Cert.Proof.Reals Cert.Proof.Edges
open Idealize.ShloMosaic Idealize.ShloMosaic.TcCoe Idealize.SL.Sem Idealize.ShloMosaic.StableHlo

/-- The kernel's attention at an entry. -/
theorem attnOf_apply (w : Vec Ideal S160000x8 .f32) (v : Vec Ideal S10000x8x32 .f32) (e : Vec Ideal S2x160000 .i32)
    (n : Fin 10000) (h : Fin 8) (d : Fin 32) :
    attnOf w v e (ix3 n h d) = Ideal.div
      (∑ i ∈ edges e n, w (ix2 i h) * take v (dstOf e) (ix3 i h d))
      (if (∑ i ∈ edges e n, w (ix2 i h)) = (0 : EReal) then 1 else ∑ i ∈ edges e n, w (ix2 i h)) := by
  rw [← sum8_apply]
  have hm : ∑ i ∈ edges e n, w (ix2 i h) * take v (dstOf e) (ix3 i h d)
      = sum32 (mulf (spreadE w) (take v (dstOf e))) e (ix3 n h d) := by
    rw [sum32_apply]
    refine Finset.sum_congr rfl fun i _ => ?_
    unfold spreadE
    pointwise []
  rw [hm]
  have h1 : (id (constant (F := Ideal) S_ .f32 0x3F800000#32) : Vec Ideal S_ .f32) ix0 = (1 : EReal) :=
    Ideal.ofBits_one_f32
  unfold attnOf
  pointwise []
  rw [h1]

/-- The reference's attention at an entry. -/
theorem refAttnOf_apply (w : Vec Ideal S160000x8 .f32) (v : Vec Ideal S10000x8x32 .f32)
    (e : Vec Ideal S2x160000 .i32) (n : Fin 10000) (h : Fin 8) (d : Fin 32) :
    refAttnOf w v e (ix3 n h d) = ∑ i ∈ edges e n,
      Ideal.div (w (ix2 i h)) (∑ j ∈ edges e n, w (ix2 j h)) * take v (dstOf e) (ix3 i h d) := by
  unfold refAttnOf
  rw [sum32_apply]
  refine Finset.sum_congr rfl fun i hi => ?_
  rw [← sum8_apply, ← takeN_edge (sum8 w e) e n i hi h]
  unfold spreadE
  pointwise []

/-- The shift of each node and head is a real number. -/
theorem safeOf_real (t : Vec Ideal S10000x8 .f32) (i : S10000x8.Idx) : IsReal (safeOf t i) := by
  have hi : Ideal.ofBits .f32 0x7F800000#32 = ⊤ := by simp [Ideal.ofBits, Ideal.ieee]
  have h0 : (id (constant (F := Ideal) S_ .f32 0x00000000#32) : Vec Ideal S_ .f32) ix0 = (0 : EReal) :=
    Ideal.ofBits_zero_f32
  unfold safeOf
  pointwise []
  rw [h0, hi]
  split
  · next h => exact IsReal.of_abs_lt h
  · exact IsReal.zero

/-- The reference's exponentials at an edge of node `n`. -/
theorem refExp_apply (t : Vec Ideal S10000x8 .f32) (a : Vec Ideal S160000x8 .f32) (e : Vec Ideal S2x160000 .i32)
    (n : Fin 10000) (i : Fin 160000) (hi : i ∈ edges e n) (h : Fin 8) :
    refExp t a e (ix2 i h) = Ideal.exp ((a (ix2 i h) : EReal) - (safeOf t (ix2 n h) : EReal)) := by
  rw [← takeN_edge (safeOf t) e n i hi h]
  rfl

/-- Where the logits and the values are real numbers, the two attentions are equal. -/
theorem attention_eq (t : Vec Ideal S10000x8 .f32) (a : Vec Ideal S160000x8 .f32)
    (v : Vec Ideal S10000x8x32 .f32) (e : Vec Ideal S2x160000 .i32) (ha : ∀ i, IsReal (a i))
    (hv : ∀ i, IsReal (v i)) : attnOf (Host.exp a) v e = refAttnOf (refExp t a e) v e := by
  funext i
  obtain ⟨n, h, d, rfl⟩ : ∃ n h d, i = (ix3 n h d : S10000x8x32.Idx) := ⟨i 0, i 1, i 2, by
    funext a; fin_cases a <;> rfl⟩
  have hw : ∀ i, IsReal (take v (dstOf e) i) := fun i => hv _
  choose f hf using ha
  choose u hu using hw
  obtain ⟨c, hc⟩ := safeOf_real t (ix2 n h)
  rw [attnOf_apply, refAttnOf_apply]
  have hs := softmax_shift (edges e n) (fun i => f (ix2 i h)) (fun i => u (ix3 i h d)) c
  have he : ∀ j : S160000x8.Idx, Host.exp (F := Ideal) (φ := .f32) a j = Ideal.exp (f j : EReal) := fun j =>
    congrArg Ideal.exp (hf j)
  have hr : ∀ i ∈ edges e n, (refExp t a e (ix2 i h) : EReal)
      = Ideal.exp ((f (ix2 i h) : EReal) - (c : EReal)) := fun i hi => by
    rw [refExp_apply t a e n i hi h, hc, hf]
  rw [Finset.sum_congr rfl hr]
  refine Eq.trans ?_ (hs.trans ?_)
  · simp only [he, hu]
  · exact Finset.sum_congr rfl fun i hi => by rw [hr i hi, hu]

end Cert.Proof.Attention

end
-- ==== Proof.Norm.lean ====
/- The two normalizations agree on all extended reals. -/
module

public import proofs.«01_k».proof.Proof.Ref
public import proofs.«01_k».proof.Proof.Reals
public import Idealize.ShloMosaic.Lib.Pointwise
public import Idealize.ShloMosaic.Lib.IdealHost

@[expose] public section

set_option maxRecDepth 16384

noncomputable section

namespace Cert.Proof.Norm

open Cert.KernelIdeal Cert.KernelIdeal.Gen Cert.Proof.Tail Cert.Proof.Ref Cert.Proof.Reals
open Idealize.ShloMosaic Idealize.ShloMosaic.TcCoe Idealize.SL.Sem Idealize.ShloMosaic.StableHlo

/-- The mean of a row of numbers that are not negative is not negative. -/
theorem meanOf_nonneg (y : Vec Ideal S10000x256 .f32) (hy : ∀ i, (0 : EReal) ≤ y i) (n : S10000x1.Idx) :
    (0 : EReal) ≤ meanOf y n := by
  unfold meanOf
  pointwise []
  have h256 : Ideal.ofBits .f32 0x43800000#32 = ((256 : ℝ) : EReal) := by
    simp [Ideal.ofBits, Ideal.ieee, -EReal.coe_mul]; norm_num
  rw [h256, Ideal.div, if_neg (by exact_mod_cast (by norm_num : (256 : ℝ) ≠ 0)), ← EReal.coe_inv]
  exact mul_nonneg (Finset.sum_nonneg fun k _ => hy _) (by exact_mod_cast (by norm_num : (0 : ℝ) ≤ 256⁻¹))

/-- The variance of each row plus the small constant is positive. -/
theorem spreadOf_pos (x : Vec Ideal S10000x256 .f32) (n : S10000x1.Idx) : (0 : EReal) < spreadOf x n := by
  have hm := meanOf_nonneg (mulf (centred x) (centred x)) (fun i => mul_self_nonneg (centred x i)) n
  have he : (0 : EReal) < Ideal.ofBits .f32 0x3727C5AC#32 := by
    simp [Ideal.ofBits, Ideal.ieee, -EReal.coe_mul]
  exact lt_of_lt_of_le he (le_add_of_nonneg_left hm)

/-- The two normalizations are the same function. -/
theorem norm_eq (x : Vec Ideal S10000x256 .f32) (g b : Vec Ideal S256 .f32) : refNormOf x g b = normOf x g b := by
  unfold refNormOf normOf
  refine congrArg (fun z => addf (mulf z (down g)) (down b)) (funext fun i => ?_)
  have h := spreadOf_pos x
  generalize spreadOf x = s at h
  unfold across
  pointwise []
  exact div_sqrt _ _ (h _)

end Cert.Proof.Norm

end
-- ==== Proof.Run.lean ====
/- What the whole kernel leaves in its result, from the launch's contents. -/
module

public import proofs.«01_k».proof.Proof.Tail
public import proofs.«01_k».proof.Proof.Blocks
public import proofs.«01_k».proof.Proof.Entry

@[expose] public section

set_option maxRecDepth 16384

noncomputable section

namespace Cert.Proof.Run

open Cert.KernelIdeal Cert.KernelIdeal.Gen Cert.Proof.Tail Cert.Proof.Blocks Cert.Proof.Entry
open Idealize.ShloMosaic Idealize.ShloMosaic.TcCoe Idealize.SL.Sem Idealize.ShloMosaic.StableHlo

/-- The kernel's result as a function of the arguments. -/
def kernelOf (x : Vec Ideal S10000x256 .f32) (e : Vec Ideal S2x160000 .i32) (W : Vec Ideal S768x256 .f32)
    (b : Vec Ideal S768 .f32) (W1 : Vec Ideal S1024x256 .f32) (b1 : Vec Ideal S1024 .f32)
    (W2 : Vec Ideal S256x1024 .f32) (b2 g1 be1 g2 be2 : Vec Ideal S256 .f32) : Vec Ideal S10000x256 .f32 :=
  outOf (proj 0 (by norm_num) x (wOf W) (bOf b)) (proj 256 (by norm_num) x (wOf W) (bOf b))
    (proj 512 (by norm_num) x (wOf W) (bOf b)) x e W1 b1 W2 b2 g1 be1 g2 be2

variable (m : (ℓ : Loc nD τ sig) → Buf (Elt Ideal) ℓ) (ρ : Dev nD → PrngReg)

/-- The region finds the permuted matrix. -/
theorem entry_w (c : Dev nD) : V m c main_call0_v5 = wOf (m ((c : Thread nD τ).loc main_arg2)) := by
  show after (List.flatten [hostOps0]) _ _ = _
  rw [List.flatten_cons, List.flatten_nil, List.append_nil, w_read]

/-- The region finds the permuted bias. -/
theorem entry_b (c : Dev nD) : V m c main_call0_v11 = bOf (m ((c : Thread nD τ).loc main_arg3)) := by
  show after (List.flatten [hostOps0]) _ _ = _
  rw [List.flatten_cons, List.flatten_nil, List.append_nil, b_read]

/-- The contents after the region: the arrays at what the grid left, the rest as it was entered. -/
abbrev W0 (c : Dev nD) : Valuation τ sig (Elt Ideal) :=
  Pipeline.withArrays (cfgs 0).spec c (V0 m c) fun w => (dats m 0 c).arrAt w (cfgs 0).N

/-- After the region the first output array holds what the grid left. -/
theorem W0_q (c : Dev nD) : W0 m c (Proc.devRef .tc main_call0_v12_0) = (dats m 0 c).arrAt 3 cfg0.N :=
  Pipeline.withArrays_arr (cfgs 0).spec (by decide) c (V0 m c) (fun w => (dats m 0 c).arrAt w (cfgs 0).N) 3

/-- After the region the second output array holds what the grid left. -/
theorem W0_k (c : Dev nD) : W0 m c (Proc.devRef .tc main_call0_v12_1) = (dats m 0 c).arrAt 4 cfg0.N :=
  Pipeline.withArrays_arr (cfgs 0).spec (by decide) c (V0 m c) (fun w => (dats m 0 c).arrAt w (cfgs 0).N) 4

/-- After the region the third output array holds what the grid left. -/
theorem W0_v (c : Dev nD) : W0 m c (Proc.devRef .tc main_call0_v12_2) = (dats m 0 c).arrAt 5 cfg0.N :=
  Pipeline.withArrays_arr (cfgs 0).spec (by decide) c (V0 m c) (fun w => (dats m 0 c).arrAt w (cfgs 0).N) 5

/-- The region leaves the features as launched. -/
theorem W0_x (c : Dev nD) : W0 m c (Proc.devRef .tc main_arg0) = m ((c : Thread nD τ).loc main_arg0) :=
  (Pipeline.withArrays_arr (cfgs 0).spec (by decide) c (V0 m c) (fun w => (dats m 0 c).arrAt w (cfgs 0).N) 0).trans
    (((dats m 0 c).arrAt_in 0 rfl _).trans ((A_eq m c 0).trans (V_main_arg0 m c)))

/-- The region leaves argument 1 as launched. -/
theorem W0_arg1 (c : Dev nD) : W0 m c (Proc.devRef .tc main_arg1) = m ((c : Thread nD τ).loc main_arg1) :=
  (Pipeline.withArrays_of_ne (cfgs 0).spec c (V0 m c) (fun w => (dats m 0 c).arrAt w (cfgs 0).N) main_arg1
    (by exact (by decide : ∀ w, Pipeline.arrRef spec0 w ≠ main_arg1))).trans (V_main_arg1 m c)

/-- The region leaves argument 4 as launched. -/
theorem W0_arg4 (c : Dev nD) : W0 m c (Proc.devRef .tc main_arg4) = m ((c : Thread nD τ).loc main_arg4) :=
  (Pipeline.withArrays_of_ne (cfgs 0).spec c (V0 m c) (fun w => (dats m 0 c).arrAt w (cfgs 0).N) main_arg4
    (by exact (by decide : ∀ w, Pipeline.arrRef spec0 w ≠ main_arg4))).trans (V_main_arg4 m c)

/-- The region leaves argument 5 as launched. -/
theorem W0_arg5 (c : Dev nD) : W0 m c (Proc.devRef .tc main_arg5) = m ((c : Thread nD τ).loc main_arg5) :=
  (Pipeline.withArrays_of_ne (cfgs 0).spec c (V0 m c) (fun w => (dats m 0 c).arrAt w (cfgs 0).N) main_arg5
    (by exact (by decide : ∀ w, Pipeline.arrRef spec0 w ≠ main_arg5))).trans (V_main_arg5 m c)

/-- The region leaves argument 6 as launched. -/
theorem W0_arg6 (c : Dev nD) : W0 m c (Proc.devRef .tc main_arg6) = m ((c : Thread nD τ).loc main_arg6) :=
  (Pipeline.withArrays_of_ne (cfgs 0).spec c (V0 m c) (fun w => (dats m 0 c).arrAt w (cfgs 0).N) main_arg6
    (by exact (by decide : ∀ w, Pipeline.arrRef spec0 w ≠ main_arg6))).trans (V_main_arg6 m c)

/-- The region leaves argument 7 as launched. -/
theorem W0_arg7 (c : Dev nD) : W0 m c (Proc.devRef .tc main_arg7) = m ((c : Thread nD τ).loc main_arg7) :=
  (Pipeline.withArrays_of_ne (cfgs 0).spec c (V0 m c) (fun w => (dats m 0 c).arrAt w (cfgs 0).N) main_arg7
    (by exact (by decide : ∀ w, Pipeline.arrRef spec0 w ≠ main_arg7))).trans (V_main_arg7 m c)

/-- The region leaves argument 8 as launched. -/
theorem W0_arg8 (c : Dev nD) : W0 m c (Proc.devRef .tc main_arg8) = m ((c : Thread nD τ).loc main_arg8) :=
  (Pipeline.withArrays_of_ne (cfgs 0).spec c (V0 m c) (fun w => (dats m 0 c).arrAt w (cfgs 0).N) main_arg8
    (by exact (by decide : ∀ w, Pipeline.arrRef spec0 w ≠ main_arg8))).trans (V_main_arg8 m c)

/-- The region leaves argument 9 as launched. -/
theorem W0_arg9 (c : Dev nD) : W0 m c (Proc.devRef .tc main_arg9) = m ((c : Thread nD τ).loc main_arg9) :=
  (Pipeline.withArrays_of_ne (cfgs 0).spec c (V0 m c) (fun w => (dats m 0 c).arrAt w (cfgs 0).N) main_arg9
    (by exact (by decide : ∀ w, Pipeline.arrRef spec0 w ≠ main_arg9))).trans (V_main_arg9 m c)

/-- The region leaves argument 10 as launched. -/
theorem W0_arg10 (c : Dev nD) : W0 m c (Proc.devRef .tc main_arg10) = m ((c : Thread nD τ).loc main_arg10) :=
  (Pipeline.withArrays_of_ne (cfgs 0).spec c (V0 m c) (fun w => (dats m 0 c).arrAt w (cfgs 0).N) main_arg10
    (by exact (by decide : ∀ w, Pipeline.arrRef spec0 w ≠ main_arg10))).trans (V_main_arg10 m c)

/-- The region leaves argument 11 as launched. -/
theorem W0_arg11 (c : Dev nD) : W0 m c (Proc.devRef .tc main_arg11) = m ((c : Thread nD τ).loc main_arg11) :=
  (Pipeline.withArrays_of_ne (cfgs 0).spec c (V0 m c) (fun w => (dats m 0 c).arrAt w (cfgs 0).N) main_arg11
    (by exact (by decide : ∀ w, Pipeline.arrRef spec0 w ≠ main_arg11))).trans (V_main_arg11 m c)

/-- The result after the operations that follow the region. -/
theorem tail_eq (c : Dev nD) :
    Pipeline.afterTail₀ cfgs (dats m) 0 (V0 m) [hostOps1] c main_v0 = kernelOf
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11)) := by
  show after (List.flatten [hostOps1]) (W0 m c) (Proc.devRef .tc main_v0) = _
  rw [List.flatten_cons, List.flatten_nil, List.append_nil, out_read, W0_q, W0_k, W0_v, W0_x, W0_arg1,
    W0_arg4, W0_arg5, W0_arg6, W0_arg7, W0_arg8, W0_arg9, W0_arg10, W0_arg11, arr3, arr4, arr5,
    entry_w, entry_b, V_main_arg0]
  rfl

/-- Every run of the kernel ends with the result at `kernelOf` of the arguments, and the arguments unchanged. -/
theorem run : θ_run defs (onTc (τ := τ) (main (F := Ideal))) ⟨m, fun _ => 0, ρ⟩ (fun r => ∀ c : Dev nD,
    r.2.mem ((c.tc : Thread nD τ).loc main_v0) = kernelOf
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)) :=
  (θ_run defs _ _).mono (fun _ h c =>
    ⟨((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

end Cert.Proof.Run

end
-- ==== Proof.Value.lean ====
/- What the kernel writes is what the reference computes, where the features, the matrix and the bias are finite. -/
module

public import proofs.«01_k».proof.Proof.Qkv
public import proofs.«01_k».proof.Proof.Attention
public import proofs.«01_k».proof.Proof.Norm
public import proofs.«01_k».proof.Proof.Run

@[expose] public section

set_option maxRecDepth 16384

noncomputable section

namespace Cert.Proof.Value

open Cert.KernelIdeal Cert.KernelIdeal.Gen Cert.Proof.Tail Cert.Proof.Blocks Cert.Proof.Entry Cert.Proof.Reals
open Cert.Proof.Run Cert.Proof.Ref
open Cert.ReferenceIdeal.Read
open Idealize.ShloMosaic Idealize.ShloMosaic.TcCoe Idealize.SL.Sem

/-- The logits of real queries and keys are real numbers. -/
theorem alpha_real (q k : Vec Ideal S10000x8x32 .f32) (e : Vec Ideal S2x160000 .i32)
    (hq : ∀ i, IsReal (q i)) (hk : ∀ i, IsReal (k i)) (i : S160000x8.Idx) : IsReal (alphaOf q k e i) := by
  obtain ⟨n, h, rfl⟩ : ∃ n h, i = (ix2 n h : S160000x8.Idx) := ⟨i 0, i 1, by
    funext a; fin_cases a <;> rfl⟩
  have ht : ∀ j, IsReal (take q (srcOf e) j) := fun j => hq _
  have hu : ∀ j, IsReal (take k (dstOf e) j) := fun j => hk _
  have hc : IsReal (Ideal.ofBits .f32 0x3D800000#32) :=
    ⟨1 / 16, by
      have e : 1031798784 >>> 23 = 123 := by decide
      have s : BitVec.extractLsb' 31 1 1031798784#32 ≠ 1#1 := by decide
      norm_num [Ideal.ofBits, Ideal.ieee, e, s, -EReal.coe_mul]⟩
  have h0 : IsReal (Ideal.ofBits .f32 0x00000000#32) := ⟨0, by simp [Ideal.ofBits_zero_f32]⟩
  unfold alphaOf
  generalize take q (srcOf e) = t at ht ⊢
  generalize take k (dstOf e) = u at hu ⊢
  pointwise []
  first
    | exact (h0.add (IsReal.sum _ _ fun j => (ht _).mul (hu _))).mul hc
    | exact (IsReal.sum _ _ fun j => (ht _).mul (hu _)).mul hc

/-- The kernel's result is the reference's. -/
theorem value (x : Vec Ideal S10000x256 .f32) (e : Vec Ideal S2x160000 .i32) (W : Vec Ideal S768x256 .f32)
    (b : Vec Ideal S768 .f32) (W1 : Vec Ideal S1024x256 .f32) (b1 : Vec Ideal S1024 .f32)
    (W2 : Vec Ideal S256x1024 .f32) (b2 g1 be1 g2 be2 : Vec Ideal S256 .f32)
    (hx : ∀ i, IsReal (x i)) (hW : ∀ i, IsReal (W i)) (hb : ∀ i, IsReal (b i)) :
    kernelOf x e W b W1 b1 W2 b2 g1 be1 g2 be2
      = val_main_v139 (F := Ideal) x e W b W1 b1 W2 b2 g1 be1 g2 be2 := by
  rw [Ref.result, Norm.norm_eq, Norm.norm_eq]
  unfold kernelOf outOf
  have hq := Qkv.heads_real x W b hx hW hb 0 (by norm_num)
  have hk := Qkv.heads_real x W b hx hW hb 256 (by norm_num)
  have hv := Qkv.heads_real x W b hx hW hb 512 (by norm_num)
  rw [Attention.attention_eq (val_main_v39 (F := Ideal) x e W b) _ _ e (alpha_real _ _ e hq hk) hv,
    Qkv.queries, Qkv.keys, Qkv.values]

end Cert.Proof.Value

end
-- ==== Proof.Pre.lean ====
/- The precondition: every entry of the features, the matrix and the bias is a real number. -/
module

public import proofs.«01_k».proof.Defs
public import proofs.«01_k».proof.Proof.Reals
public import Idealize.ShloMosaic.Lib.ReduceAll
public import Idealize.ShloMosaic.Lib.WordCmp

@[expose] public section

noncomputable section

namespace Cert.Proof.Pre

open Cert.Pre_inputs_finite Cert.Proof.Reals
open Idealize.ShloMosaic

/-- The side conditions of the precondition. -/
theorem facts : Cert.Pre_inputs_finite.Facts where
  bcast_S_S10000x256 := by decide
  reducesTo_S10000x256_S_d0_1 := by decide
  h_S_ := by decide
  bcast_S_S768x256 := by decide
  reducesTo_S768x256_S_d0_1 := by decide
  bcast_S_S768 := by decide
  reducesTo_S768_S_d0 := by decide

instance : Subsingleton S_.Idx := ⟨fun i j => funext fun a => a.elim0⟩

/-- Where the conjunction over all entries of `|x| < ∞` holds, every entry is a real number. -/
theorem real_of_all {s : Shape} {axes : List (Fin s.rank)} (x : FVec Ideal s .f32)
    (hb : S_.BroadcastsInDim s (![] : Fin 0 → Fin s.rank)) (hr : s.ReducesTo axes S_) (h0 : 0 < S_.numel)
    (j : S_.Idx)
    (h : Host.reduce IntOp.andi (cmpf .olt (Host.absf x) (broadcastInDim s ![] hb (constant S_ .f32 0x7F800000#32)))
      (constantI S_ 1 1#1) hr h0 j = 1#1) (i : s.Idx) : IsReal (x i) := by
  have hi : Ideal.ofBits .f32 0x7F800000#32 = ⊤ := by simp [Ideal.ofBits, Ideal.ieee]
  have hc := Host.reduce_andi_all _ _ _ _ j h i
  refine IsReal.of_abs_lt ?_
  have hd : BitVec.ofBool (decide ((max (x i) (-(x i)) : EReal) < Ideal.ofBits .f32 0x7F800000#32)) = 1#1 := hc
  rw [hi] at hd
  by_contra hn
  rw [decide_eq_false hn] at hd
  exact absurd hd (by decide)

/-- Two bits whose conjunction is one are both one. -/
theorem andi_both (p q : BitVec 1) (h : IntOp.andi p q = 1#1) : p = 1#1 ∧ q = 1#1 := by
  revert h; revert p q; decide

attribute [local instance] facts

/-- The precondition, read. -/
theorem decode (x0 : FVec Ideal S10000x256 .f32) (x1 : IVec S2x160000 32) (x2 : FVec Ideal S768x256 .f32)
    (x3 : FVec Ideal S768 .f32) (x4 : FVec Ideal S1024x256 .f32) (x5 : FVec Ideal S1024 .f32)
    (x6 : FVec Ideal S256x1024 .f32) (x7 x8 x9 x10 x11 : FVec Ideal S256 .f32)
    (h : fn (F := Ideal) x0 x1 x2 x3 x4 x5 x6 x7 x8 x9 x10 x11 = fun _ => 1#1) :
    (∀ i, IsReal (x0 i)) ∧ (∀ i, IsReal (x2 i)) ∧ (∀ i, IsReal (x3 i)) := by
  have hj := congrFun h (fun a => a.elim0)
  obtain ⟨h01, h2⟩ := andi_both _ _ hj
  obtain ⟨h0, h1⟩ := andi_both _ _ h01
  exact ⟨real_of_all x0 _ _ _ _ h0, real_of_all x2 _ _ _ _ h1, real_of_all x3 _ _ _ _ h2⟩

end Cert.Proof.Pre

end
-- ==== Proof.lean ====
/- The proof of every claim: the frames of the three programs, and the equality of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Value
public import proofs.«01_k».proof.Proof.Pre
public import Idealize.ShloMosaic.Adequacy
public import Idealize.ShloMosaic.Init

@[expose] public section

set_option maxRecDepth 16384

noncomputable section

namespace Cert.Proof

open Idealize.ShloMosaic Idealize.ShloMosaic.StableHlo Idealize.SL.Sem Cert.Kernel

/-- The kernel runs, leaves its arguments as they were, and every counter ends at zero. -/
theorem frame_kernel : Cert.quiescent_Kernel := fun m g _ => Cert.Kernel.Gen.frame m g

/-- The same of the kernel read over the extended reals. -/
theorem frame_kernel_ideal : Cert.quiescent_KernelIdeal := fun m g _ =>
  Cert.KernelIdeal.Gen.frame m g

/-- The reference runs and leaves its arguments as they were; it has no counter. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run m g)

/-- On finite features, projection matrix and projection bias the kernel and the reference, read over the extended
    reals, leave the same result. -/
theorem same_result : Cert.algebraic_KernelIdeal_ReferenceIdeal_pre_inputs_finite (hPre_inputs_finite := Pre.facts) := by
  intro m g m' g' hpre hagree
  refine ⟨_, Run.run m g, (θ_run Cert.ReferenceIdeal.defs _ _).mono (fun r h c => ⟨?_, (h c).2⟩)
    (Cert.ReferenceIdeal.Value.run m' g')⟩
  refine (h c).1.trans ((Cert.ReferenceIdeal.Read.val_main_v139_eq (launchContents m' c)).trans ?_)
  obtain ⟨hx, hW, hb⟩ := Pre.decode _ _ _ _ _ _ _ _ _ _ _ _ (hpre c)
  refine Eq.trans ?_ (Value.value _ _ _ _ _ _ _ _ _ _ _ _ hx hW hb).symm
  obtain ⟨h0, h1, h2, h3, h4, h5, h6, h7, h8, h9, h10, h11⟩ := hagree c
  rw [← h0, ← h1, ← h2, ← h3, ← h4, ← h5, ← h6, ← h7, ← h8, ← h9, ← h10, ← h11]

/-- Every claim of the certificate. -/
theorem claim : Cert.Claim :=
  ⟨Cert.Kernel.Gen.facts, Cert.KernelIdeal.Gen.facts, Cert.ReferenceIdeal.Gen.facts, Pre.facts,
    frame_kernel, frame_kernel_ideal, fun m g _ => frame_kernel_ideal m g trivial,
    frame_reference, fun m g _ => frame_reference m g trivial, trivial, same_result⟩

end Cert.Proof

end
